-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x32x16384 : Shape := ⟨3, ![3, 32, 16384]⟩
abbrev S16384x256 : Shape := ⟨2, ![16384, 256]⟩
abbrev S256 : Shape := ⟨1, ![256]⟩
abbrev S256x100000 : Shape := ⟨2, ![256, 100000]⟩
abbrev S100000 : Shape := ⟨1, ![100000]⟩
abbrev S_ : Shape := ⟨0, ![]⟩

class Facts : Prop where
  bcast_S_S3x32x16384 : S_.BroadcastsInDim S3x32x16384 (![] : Fin 0 → Fin S3x32x16384.rank)
  reducesTo_S3x32x16384_S_d0_1_2 : S3x32x16384.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256 : S_.BroadcastsInDim S256 (![] : Fin 0 → Fin S256.rank)
  reducesTo_S256_S_d0 : S256.ReducesTo [0] S_
  bcast_S_S256x100000 : S_.BroadcastsInDim S256x100000 (![] : Fin 0 → Fin S256x100000.rank)
  reducesTo_S256x100000_S_d0_1 : S256x100000.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : FVec F S256x100000 .f32) (main_arg8 : FVec F S100000 .f32) (main_v33 : IVec S_ 1) : IVec S_ 1 :=
  let main_v34 : FVec F S256x100000 .f32 := Host.absf main_arg7
  let main_cst_12 : FVec F S_ .f32 := constant S_ .f32 0x7F800000#32
  let main_v35 : FVec F S256x100000 .f32 := broadcastInDim S256x100000 ![] bcast_S_S256x100000 main_cst_12
  let main_v36 : IVec S256x100000 1 := cmpf .olt main_v34 main_v35
  let main_c_13 : IVec S_ 1 := constantI S_ 1 1#1
  let main_v37 : IVec S_ 1 := (fun x v => Host.reduce IntOp.andi x v reducesTo_S256x100000_S_d0_1 h_S_) main_v36 main_c_13
  let main_v38 : IVec S_ 1 := andi main_v33 main_v37
  let main_v39 : FVec F S100000 .f32 := Host.absf main_arg8
  let main_cst_14 : FVec F S_ .f32 := constant S_ .f32 0x7F800000#32
  let main_v40 : FVec F S100000 .f32 := broadcastInDim S100000 ![] bcast_S_S100000 main_cst_14
  let main_v41 : IVec S100000 1 := cmpf .olt main_v39 main_v40
  let main_c_15 : IVec S_ 1 := constantI S_ 1 1#1
  let main_v42 : IVec S_ 1 := (fun x v => Host.reduce IntOp.andi x v reducesTo_S100000_S_d0 h_S_) main_v41 main_c_15
  let main_v43 : IVec S_ 1 := andi main_v38 main_v42
  main_v43

def fn_part1 {F : FTy → Type} [FloatOps F] (main_arg4 : FVec F S256 .f32) (main_arg5 : FVec F S16384x256 .f32) (main_arg6 : FVec F S256 .f32) (main_arg7 : FVec F S256x100000 .f32) (main_arg8 : FVec F S100000 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16384x256 .f32 := Host.absf main_arg5
  let main_cst_8 : FVec F S_ .f32 := constant S_ .f32 0x7F800000#32
  let main_v25 : FVec F S16384x256 .f32 := broadcastInDim S16384x256 ![] bcast_S_S16384x256 main_cst_8
  let main_v26 : IVec S16384x256 1 := cmpf .olt main_v24 main_v25
  let main_c_9 : IVec S_ 1 := constantI S_ 1 1#1
  let main_v27 : IVec S_ 1 := (fun x v => Host.reduce IntOp.andi x v reducesTo_S16384x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S3x32x16384 .f32) (main_arg1 : FVec F S16384x256 .f32) (main_arg2 : FVec F S256 .f32) (main_arg3 : FVec F S16384x256 .f32) (main_arg4 : FVec F S256 .f32) (main_arg5 : FVec F S16384x256 .f32) (main_arg6 : FVec F S256 .f32) (main_arg7 : FVec F S256x100000 .f32) (main_arg8 : FVec F S100000 .f32) : IVec S_ 1 :=
  let main_v0 : FVec F S3x32x16384 .f32 := Host.absf main_arg0
  let main_cst : FVec F S_ .f32 := constant S_ .f32 0x7F800000#32
  let main_v1 : FVec F S3x32x16384 .f32 := broadcastInDim S3x32x16384 ![] bcast_S_S3x32x16384 main_cst
  let main_v2 : IVec S3x32x16384 1 := cmpf .olt main_v0 main_v1
  let main_c : IVec S_ 1 := constantI S_ 1 1#1
  let main_v3 : IVec S_ 1 := (fun x v => Host.reduce IntOp.andi x v reducesTo_S3x32x16384_S_d0_1_2 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_v13 main_v16
-- ==== Kernel.lean ====
abbrev S3x32x16384 : Shape := ⟨3, ![3, 32, 16384]⟩
abbrev S16384x256 : Shape := ⟨2, ![16384, 256]⟩
abbrev S256 : Shape := ⟨1, ![256]⟩
abbrev S256x100000 : Shape := ⟨2, ![256, 100000]⟩
abbrev S100000 : Shape := ⟨1, ![100000]⟩
abbrev S_ : Shape := ⟨0, ![]⟩
abbrev S32x3 : Shape := ⟨2, ![32, 3]⟩
abbrev S32 : Shape := ⟨1, ![32]⟩
abbrev S32x1 : Shape := ⟨2, ![32, 1]⟩
abbrev S32x1x3 : Shape := ⟨3, ![32, 1, 3]⟩
abbrev S32x256x3 : Shape := ⟨3, ![32, 256, 3]⟩
abbrev S1 : Shape := ⟨1, ![1]⟩
abbrev S2 : Shape := ⟨1, ![2]⟩
abbrev S1x1x1 : Shape := ⟨3, ![1, 1, 1]⟩
abbrev S32x256 : Shape := ⟨2, ![32, 256]⟩
abbrev S32x256x1 : Shape := ⟨3, ![32, 256, 1]⟩
abbrev S1x1x3 : Shape := ⟨3, ![1, 1, 3]⟩
abbrev S3x32x256 : Shape := ⟨3, ![3, 32, 256]⟩
abbrev S1x256 : Shape := ⟨2, ![1, 256]⟩
abbrev S1x100000 : Shape := ⟨2, ![1, 100000]⟩
abbrev S3x32x2048 : Shape := ⟨3, ![3, 32, 2048]⟩
abbrev S2048x256 : Shape := ⟨2, ![2048, 256]⟩
abbrev S1x32x256 : Shape := ⟨3, ![1, 32, 256]⟩
abbrev S1x32x2048 : Shape := ⟨3, ![1, 32, 2048]⟩
abbrev S32x2048 : Shape := ⟨2, ![32, 2048]⟩
abbrev S32x100000 : Shape := ⟨2, ![32, 100000]⟩
abbrev S32x128 : Shape := ⟨2, ![32, 128]⟩
abbrev S256x8192 : Shape := ⟨2, ![256, 8192]⟩
abbrev S1x8192 : Shape := ⟨2, ![1, 8192]⟩
abbrev S32x8192 : Shape := ⟨2, ![32, 8192]⟩
abbrev S32x12288 : Shape := ⟨2, ![32, 12288]⟩

abbrev nBuf : Space → Nat
  | .hbm => 322
  | .vmem => 29
  | .smem => 0
  | _ => 0

abbrev hbmTy0_0 (i : Nat) : BufTy := match i % 128 with
  | 0 => ⟨S3x32x16384, .f32⟩
  | 1 => ⟨S16384x256, .f32⟩
  | 2 => ⟨S256, .f32⟩
  | 3 => ⟨S16384x256, .f32⟩
  | 4 => ⟨S256, .f32⟩
  | 5 => ⟨S16384x256, .f32⟩
  | 6 => ⟨S256, .f32⟩
  | 7 => ⟨S256x100000, .f32⟩
  | 8 => ⟨S100000, .f32⟩
  | 9 => ⟨S_, .f32⟩
  | 10 => ⟨S32x3, .f32⟩
  | 11 => ⟨S_, .f32⟩
  | 12 => ⟨S32, .f32⟩
  | 13 => ⟨S32x1, .f32⟩
  | 14 => ⟨S32x3, .f32⟩
  | 15 => ⟨S32x3, .f32⟩
  | 16 => ⟨S32x3, .f32⟩
  | 17 => ⟨S32x1x3, .f32⟩
  | 18 => ⟨S32x256x3, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S1x1x1, .f32⟩
  | 33 => ⟨S1x1x1, .f32⟩
  | 34 => ⟨S1, .i32⟩
  | 35 => ⟨S_, .i32⟩
  | 36 => ⟨S1, .i32⟩
  | 37 => ⟨S_, .i32⟩
  | 38 => ⟨S32x256x3, .i64⟩
  | 39 => ⟨S32x256x3, .i64⟩
  | 40 => ⟨S32x256x3, .i64⟩
  | 41 => ⟨S_, .i64⟩
  | 42 => ⟨S32x256x3, .i64⟩
  | 43 => ⟨S32x256x3, .i64⟩
  | 44 => ⟨S_, .i64⟩
  | 45 => ⟨S32x256x3, .i64⟩
  | 46 => ⟨S32x256x3, .i64⟩
  | 47 => ⟨S_, .i64⟩
  | 48 => ⟨S32x256x3, .i64⟩
  | 49 => ⟨S32x256x3, .i64⟩
  | 50 => ⟨S32x256x3, .i64⟩
  | 51 => ⟨S32x256x3, .i64⟩
  | 52 => ⟨S_, .i64⟩
  | 53 => ⟨S32x256x3, .i64⟩
  | 54 => ⟨S32x256x3, .i64⟩
  | 55 => ⟨S32x256x3, .i32⟩
  | 56 => ⟨S32x256x3, .i32⟩
  | 57 => ⟨S_, .i32⟩
  | 58 => ⟨S_, .i32⟩
  | 59 => ⟨S_, .i32⟩
  | 60 => ⟨S32x256x3, .i32⟩
  | 61 => ⟨S32x256x3, .i32⟩
  | 62 => ⟨S32x256x3, .i32⟩
  | 63 => ⟨S32x256x3, .i32⟩
  | 64 => ⟨S32x256x3, .i32⟩
  | 65 => ⟨S_, .i32⟩
  | 66 => ⟨S32x256x3, .i32⟩
  | 67 => ⟨S32x256x3, .i32⟩
  | 68 => ⟨S_, .i32⟩
  | 69 => ⟨S32x256x3, .i32⟩
  | 70 => ⟨S32x256x3, .i32⟩
  | 71 => ⟨S32x256x3, .i32⟩
  | 72 => ⟨S32x256x3, .i32⟩
  | 73 => ⟨S32x256x3, .i32⟩
  | 74 => ⟨S_, .i32⟩
  | 75 => ⟨S32x256x3, .i32⟩
  | 76 => ⟨S32x256x3, .i32⟩
  | 77 => ⟨S_, .i32⟩
  | 78 => ⟨S32x256x3, .i32⟩
  | 79 => ⟨S32x256x3, .i32⟩
  | 80 => ⟨S32x256x3, .i32⟩
  | 81 => ⟨S32x256x3, .i32⟩
  | 82 => ⟨S32x256x3, .i32⟩
  | 83 => ⟨S_, .i32⟩
  | 84 => ⟨S32x256x3, .i32⟩
  | 85 => ⟨S32x256x3, .i32⟩
  | 86 => ⟨S_, .i32⟩
  | 87 => ⟨S32x256x3, .i32⟩
  | 88 => ⟨S32x256x3, .i32⟩
  | 89 => ⟨S32x256x3, .i32⟩
  | 90 => ⟨S32x256x3, .i32⟩
  | 91 => ⟨S32x256x3, .i32⟩
  | 92 => ⟨S_, .i32⟩
  | 93 => ⟨S32x256x3, .i32⟩
  | 94 => ⟨S32x256x3, .i32⟩
  | 95 => ⟨S_, .i32⟩
  | 96 => ⟨S32x256x3, .i32⟩
  | 97 => ⟨S32x256x3, .i32⟩
  | 98 => ⟨S32x256x3, .i32⟩
  | 99 => ⟨S32x256x3, .i32⟩
  | 100 => ⟨S32x256x3, .i32⟩
  | 101 => ⟨S32x256x3, .i32⟩
  | 102 => ⟨S32x256x3, .i32⟩
  | 103 => ⟨S32x256x3, .i32⟩
  | 104 => ⟨S_, .i32⟩
  | 105 => ⟨S32x256x3, .i32⟩
  | 106 => ⟨S32x256x3, .i32⟩
  | 107 => ⟨S32x256x3, .i32⟩
  | 108 => ⟨S_, .i32⟩
  | 109 => ⟨S32x256x3, .i32⟩
  | 110 => ⟨S32x256x3, .i32⟩
  | 111 => ⟨S_, .i32⟩
  | 112 => ⟨S32x256x3, .i32⟩
  | 113 => ⟨S32x256x3, .i32⟩
  | 114 => ⟨S32x256x3, .i32⟩
  | 115 => ⟨S32x256x3, .i32⟩
  | 116 => ⟨S32x256x3, .i32⟩
  | 117 => ⟨S_, .i32⟩
  | 118 => ⟨S32x256x3, .i32⟩
  | 119 => ⟨S32x256x3, .i32⟩
  | 120 => ⟨S_, .i32⟩
  | 121 => ⟨S32x256x3, .i32⟩
  | 122 => ⟨S32x256x3, .i32⟩
  | 123 => ⟨S32x256x3, .i32⟩
  | 124 => ⟨S32x256x3, .i32⟩
  | 125 => ⟨S32x256x3, .i32⟩
  | 126 => ⟨S_, .i32⟩
  | 127 => ⟨S32x256x3, .i32⟩
  | _ => ⟨S3x32x16384, .f32⟩

abbrev hbmTy0_1 (i : Nat) : BufTy := match i % 128 with
  | 0 => ⟨S32x256x3, .i32⟩
  | 1 => ⟨S_, .i32⟩
  | 2 => ⟨S32x256x3, .i32⟩
  | 3 => ⟨S32x256x3, .i32⟩
  | 4 => ⟨S32x256x3, .i32⟩
  | 5 => ⟨S32x256x3, .i32⟩
  | 6 => ⟨S32x256x3, .i32⟩
  | 7 => ⟨S_, .i32⟩
  | 8 => ⟨S32x256x3, .i32⟩
  | 9 => ⟨S32x256x3, .i32⟩
  | 10 => ⟨S_, .i32⟩
  | 11 => ⟨S32x256x3, .i32⟩
  | 12 => ⟨S32x256x3, .i32⟩
  | 13 => ⟨S32x256x3, .i32⟩
  | 14 => ⟨S32x256x3, .i32⟩
  | 15 => ⟨S32x256x3, .i32⟩
  | 16 => ⟨S32x256x3, .i32⟩
  | 17 => ⟨S32x256x3, .i32⟩
  | 18 => ⟨S32x256x3, .i32⟩
  | 19 => ⟨S_, .i32⟩
  | 20 => ⟨S32x256x3, .i32⟩
  | 21 => ⟨S32x256x3, .i32⟩
  | 22 => ⟨S32x256x3, .i32⟩
  | 23 => ⟨S_, .i32⟩
  | 24 => ⟨S32x256x3, .i32⟩
  | 25 => ⟨S32x256x3, .i32⟩
  | 26 => ⟨S_, .i32⟩
  | 27 => ⟨S32x256x3, .i32⟩
  | 28 => ⟨S32x256x3, .i32⟩
  | 29 => ⟨S32x256x3, .i32⟩
  | 30 => ⟨S32x256x3, .i32⟩
  | 31 => ⟨S32x256x3, .i32⟩
  | 32 => ⟨S_, .i32⟩
  | 33 => ⟨S32x256x3, .i32⟩
  | 34 => ⟨S32x256x3, .i32⟩
  | 35 => ⟨S_, .i32⟩
  | 36 => ⟨S32x256x3, .i32⟩
  | 37 => ⟨S32x256x3, .i32⟩
  | 38 => ⟨S32x256x3, .i32⟩
  | 39 => ⟨S32x256x3, .i32⟩
  | 40 => ⟨S32x256x3, .i32⟩
  | 41 => ⟨S_, .i32⟩
  | 42 => ⟨S32x256x3, .i32⟩
  | 43 => ⟨S32x256x3, .i32⟩
  | 44 => ⟨S_, .i32⟩
  | 45 => ⟨S32x256x3, .i32⟩
  | 46 => ⟨S32x256x3, .i32⟩
  | 47 => ⟨S32x256x3, .i32⟩
  | 48 => ⟨S32x256x3, .i32⟩
  | 49 => ⟨S32x256x3, .i32⟩
  | 50 => ⟨S_, .i32⟩
  | 51 => ⟨S32x256x3, .i32⟩
  | 52 => ⟨S32x256x3, .i32⟩
  | 53 => ⟨S_, .i32⟩
  | 54 => ⟨S32x256x3, .i32⟩
  | 55 => ⟨S32x256x3, .i32⟩
  | 56 => ⟨S32x256x3, .i32⟩
  | 57 => ⟨S32x256x3, .i32⟩
  | 58 => ⟨S32x256x3, .i32⟩
  | 59 => ⟨S32x256x3, .i32⟩
  | 60 => ⟨S32x256x3, .i32⟩
  | 61 => ⟨S32x256x3, .i32⟩
  | 62 => ⟨S_, .i32⟩
  | 63 => ⟨S32x256x3, .i32⟩
  | 64 => ⟨S32x256x3, .i32⟩
  | 65 => ⟨S32x256x3, .i32⟩
  | 66 => ⟨S_, .i32⟩
  | 67 => ⟨S32x256x3, .i32⟩
  | 68 => ⟨S32x256x3, .i32⟩
  | 69 => ⟨S_, .i32⟩
  | 70 => ⟨S32x256x3, .i32⟩
  | 71 => ⟨S32x256x3, .i32⟩
  | 72 => ⟨S32x256x3, .i32⟩
  | 73 => ⟨S32x256x3, .i32⟩
  | 74 => ⟨S32x256x3, .i32⟩
  | 75 => ⟨S_, .i32⟩
  | 76 => ⟨S32x256x3, .i32⟩
  | 77 => ⟨S32x256x3, .i32⟩
  | 78 => ⟨S_, .i32⟩
  | 79 => ⟨S32x256x3, .i32⟩
  | 80 => ⟨S32x256x3, .i32⟩
  | 81 => ⟨S32x256x3, .i32⟩
  | 82 => ⟨S32x256x3, .i32⟩
  | 83 => ⟨S32x256x3, .i32⟩
  | 84 => ⟨S_, .i32⟩
  | 85 => ⟨S32x256x3, .i32⟩
  | 86 => ⟨S32x256x3, .i32⟩
  | 87 => ⟨S_, .i32⟩
  | 88 => ⟨S32x256x3, .i32⟩
  | 89 => ⟨S32x256x3, .i32⟩
  | 90 => ⟨S32x256x3, .i32⟩
  | 91 => ⟨S32x256x3, .i32⟩
  | 92 => ⟨S32x256x3, .i32⟩
  | 93 => ⟨S_, .i32⟩
  | 94 => ⟨S32x256x3, .i32⟩
  | 95 => ⟨S32x256x3, .i32⟩
  | 96 => ⟨S_, .i32⟩
  | 97 => ⟨S32x256x3, .i32⟩
  | 98 => ⟨S32x256x3, .i32⟩
  | 99 => ⟨S32x256x3, .i32⟩
  | 100 => ⟨S32x256x3, .i32⟩
  | 101 => ⟨S32x256x3, .i32⟩
  | 102 => ⟨S32x256x3, .i32⟩
  | 103 => ⟨S32x256x3, .i32⟩
  | 104 => ⟨S32x256x3, .i32⟩
  | 105 => ⟨S_, .i32⟩
  | 106 => ⟨S32x256x3, .i32⟩
  | 107 => ⟨S32x256x3, .i32⟩
  | 108 => ⟨S32x256x3, .i32⟩
  | 109 => ⟨S_, .i32⟩
  | 110 => ⟨S32x256x3, .i32⟩
  | 111 => ⟨S32x256x3, .i32⟩
  | 112 => ⟨S_, .i32⟩
  | 113 => ⟨S32x256x3, .i32⟩
  | 114 => ⟨S32x256x3, .i32⟩
  | 115 => ⟨S32x256x3, .i32⟩
  | 116 => ⟨S32x256x3, .i32⟩
  | 117 => ⟨S32x256x3, .i32⟩
  | 118 => ⟨S_, .i32⟩
  | 119 => ⟨S32x256x3, .i32⟩
  | 120 => ⟨S32x256x3, .i32⟩
  | 121 => ⟨S_, .i32⟩
  | 122 => ⟨S32x256x3, .i32⟩
  | 123 => ⟨S32x256x3, .i32⟩
  | 124 => ⟨S32x256x3, .i32⟩
  | 125 => ⟨S32x256x3, .i32⟩
  | 126 => ⟨S32x256x3, .i32⟩
  | 127 => ⟨S_, .i32⟩
  | _ => ⟨S3x32x16384, .f32⟩

abbrev hbmTy0_2 (i : Nat) : BufTy := match i % 128 with
  | 0 => ⟨S32x256x3, .i32⟩
  | 1 => ⟨S32x256x3, .i32⟩
  | 2 => ⟨S_, .i32⟩
  | 3 => ⟨S32x256x3, .i32⟩
  | 4 => ⟨S32x256x3, .i32⟩
  | 5 => ⟨S32x256x3, .i32⟩
  | 6 => ⟨S32x256x3, .i32⟩
  | 7 => ⟨S32x256x3, .i32⟩
  | 8 => ⟨S_, .i32⟩
  | 9 => ⟨S32x256x3, .i32⟩
  | 10 => ⟨S32x256x3, .i32⟩
  | 11 => ⟨S_, .i32⟩
  | 12 => ⟨S32x256x3, .i32⟩
  | 13 => ⟨S32x256x3, .i32⟩
  | 14 => ⟨S32x256x3, .i32⟩
  | 15 => ⟨S32x256x3, .i32⟩
  | 16 => ⟨S32x256x3, .i32⟩
  | 17 => ⟨S32x256x3, .i32⟩
  | 18 => ⟨S32x256x3, .i32⟩
  | 19 => ⟨S32x256x3, .i32⟩
  | 20 => ⟨S_, .i32⟩
  | 21 => ⟨S32x256x3, .i32⟩
  | 22 => ⟨S32x256x3, .i32⟩
  | 23 => ⟨S32x256x3, .i32⟩
  | 24 => ⟨S_, .i32⟩
  | 25 => ⟨S32x256x3, .i32⟩
  | 26 => ⟨S32x256x3, .i32⟩
  | 27 => ⟨S_, .i32⟩
  | 28 => ⟨S32x256x3, .i32⟩
  | 29 => ⟨S32x256x3, .i32⟩
  | 30 => ⟨S32x256x3, .f32⟩
  | 31 => ⟨S_, .f32⟩
  | 32 => ⟨S32x256x3, .f32⟩
  | 33 => ⟨S32x256x3, .f32⟩
  | 34 => ⟨S1x1x1, .f32⟩
  | 35 => ⟨S32x256x3, .f32⟩
  | 36 => ⟨S32x256x3, .f32⟩
  | 37 => ⟨S32x256x3, .f32⟩
  | 38 => ⟨S32x256x3, .f32⟩
  | 39 => ⟨S32x256x3, .f32⟩
  | 40 => ⟨S32x256x3, .f32⟩
  | 41 => ⟨S32x256x3, .f32⟩
  | 42 => ⟨S32x256x3, .f32⟩
  | 43 => ⟨S32x256x3, .f32⟩
  | 44 => ⟨S32x256x3, .f32⟩
  | 45 => ⟨S32x256x3, .f32⟩
  | 46 => ⟨S32x256x3, .i32⟩
  | 47 => ⟨S_, .f32⟩
  | 48 => ⟨S_, .i32⟩
  | 49 => ⟨S32x256, .f32⟩
  | 50 => ⟨S32x256, .i32⟩
  | 51 => ⟨S32x256x1, .i32⟩
  | 52 => ⟨S1x1x3, .i32⟩
  | 53 => ⟨S32x256x3, .i32⟩
  | 54 => ⟨S32x256x3, .i32⟩
  | 55 => ⟨S32x256x3, .i1⟩
  | 56 => ⟨S32x256x3, .f32⟩
  | 57 => ⟨S3x32x256, .f32⟩
  | 58 => ⟨S1x256, .f32⟩
  | 59 => ⟨S1x256, .f32⟩
  | 60 => ⟨S1x256, .f32⟩
  | 61 => ⟨S1x100000, .f32⟩
  | 62 => ⟨S32x256, .f32⟩
  | 63 => ⟨S32x100000, .f32⟩
  | 64 => ⟨S32x128, .f32⟩
  | 65 => ⟨S32x100000, .f32⟩
  | _ => ⟨S3x32x16384, .f32⟩

abbrev hbmTy (i : Nat) : BufTy := match i / 128 with
  | 0 => hbmTy0_0 i
  | 1 => hbmTy0_1 i
  | 2 => hbmTy0_2 i
  | _ => ⟨S3x32x16384, .f32⟩

abbrev bufTy : (tb : Table) → Fin (tcTables nBuf tb) → BufTy
  | .hbm, ⟨i, _⟩ => hbmTy i
  | .local _ .vmem, ⟨0, _⟩ => ⟨S3x32x2048, .f32⟩
  | .local _ .vmem, ⟨1, _⟩ => ⟨S3x32x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S3x32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S256x8192, .f32⟩
  | .local _ .vmem, ⟨16, _⟩ => ⟨S256x8192, .f32⟩
  | .local _ .vmem, ⟨17, _⟩ => ⟨S1x8192, .f32⟩
  | .local _ .vmem, ⟨18, _⟩ => ⟨S1x8192, .f32⟩
  | .local _ .vmem, ⟨19, _⟩ => ⟨S32x8192, .f32⟩
  | .local _ .vmem, ⟨20, _⟩ => ⟨S32x8192, .f32⟩
  | .local _ .vmem, ⟨21, _⟩ => ⟨S32x128, .f32⟩
  | .local _ .vmem, ⟨22, _⟩ => ⟨S32x1, .f32⟩
  | .local _ .vmem, ⟨23, _⟩ => ⟨S32x1, .f32⟩
  | .local _ .vmem, ⟨24, _⟩ => ⟨S32x12288, .f32⟩
  | .local _ .vmem, ⟨25, _⟩ => ⟨S32x12288, .f32⟩
  | .local _ .vmem, ⟨26, _⟩ => ⟨S32x128, .f32⟩
  | .local _ .vmem, ⟨27, _⟩ => ⟨S32x12288, .f32⟩
  | .local _ .vmem, ⟨28, _⟩ => ⟨S32x12288, .f32⟩
  | _, _ => ⟨S3x32x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_cst_0 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_c : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_c_0 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_1 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_c_2 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_v21 : Ref sig .tc := ⟨.hbm, 56, rfl⟩
abbrev main_call0_call0_call0_v0 : Ref sig .tc := ⟨.hbm, 57, rfl⟩
abbrev main_call0_call0_call0_c : Ref sig .tc := ⟨.hbm, 58, rfl⟩
abbrev main_call0_call0_call0_v1 : Ref sig .tc := ⟨.hbm, 59, rfl⟩
abbrev main_call0_call0_call0_v2 : Ref sig .tc := ⟨.hbm, 60, rfl⟩
abbrev main_call0_call0_call0_v3 : Ref sig .tc := ⟨.hbm, 61, rfl⟩
abbrev main_call0_call0_call0_v4 : Ref sig .tc := ⟨.hbm, 62, rfl⟩
abbrev main_call0_call0_call0_v5 : Ref sig .tc := ⟨.hbm, 63, rfl⟩
abbrev main_call0_call0_call0_v6 : Ref sig .tc := ⟨.hbm, 64, rfl⟩
abbrev main_call0_call0_call0_c_0 : Ref sig .tc := ⟨.hbm, 65, rfl⟩
abbrev main_call0_call0_call0_v7 : Ref sig .tc := ⟨.hbm, 66, rfl⟩
abbrev main_call0_call0_call0_v8 : Ref sig .tc := ⟨.hbm, 67, rfl⟩
abbrev main_call0_call0_call0_c_1 : Ref sig .tc := ⟨.hbm, 68, rfl⟩
abbrev main_call0_call0_call0_v9 : Ref sig .tc := ⟨.hbm, 69, rfl⟩
abbrev main_call0_call0_call0_v10 : Ref sig .tc := ⟨.hbm, 70, rfl⟩
abbrev main_call0_call0_call0_v11 : Ref sig .tc := ⟨.hbm, 71, rfl⟩
abbrev main_call0_call0_call0_v12 : Ref sig .tc := ⟨.hbm, 72, rfl⟩
abbrev main_call0_call0_call0_v13 : Ref sig .tc := ⟨.hbm, 73, rfl⟩
abbrev main_call0_call0_call0_c_2 : Ref sig .tc := ⟨.hbm, 74, rfl⟩
abbrev main_call0_call0_call0_v14 : Ref sig .tc := ⟨.hbm, 75, rfl⟩
abbrev main_call0_call0_call0_v15 : Ref sig .tc := ⟨.hbm, 76, rfl⟩
abbrev main_call0_call0_call0_c_3 : Ref sig .tc := ⟨.hbm, 77, rfl⟩
abbrev main_call0_call0_call0_v16 : Ref sig .tc := ⟨.hbm, 78, rfl⟩
abbrev main_call0_call0_call0_v17 : Ref sig .tc := ⟨.hbm, 79, rfl⟩
abbrev main_call0_call0_call0_v18 : Ref sig .tc := ⟨.hbm, 80, rfl⟩
abbrev main_call0_call0_call0_v19 : Ref sig .tc := ⟨.hbm, 81, rfl⟩
abbrev main_call0_call0_call0_v20 : Ref sig .tc := ⟨.hbm, 82, rfl⟩
abbrev main_call0_call0_call0_c_4 : Ref sig .tc := ⟨.hbm, 83, rfl⟩
abbrev main_call0_call0_call0_v21 : Ref sig .tc := ⟨.hbm, 84, rfl⟩
abbrev main_call0_call0_call0_v22 : Ref sig .tc := ⟨.hbm, 85, rfl⟩
abbrev main_call0_call0_call0_c_5 : Ref sig .tc := ⟨.hbm, 86, rfl⟩
abbrev main_call0_call0_call0_v23 : Ref sig .tc := ⟨.hbm, 87, rfl⟩
abbrev main_call0_call0_call0_v24 : Ref sig .tc := ⟨.hbm, 88, rfl⟩
abbrev main_call0_call0_call0_v25 : Ref sig .tc := ⟨.hbm, 89, rfl⟩
abbrev main_call0_call0_call0_v26 : Ref sig .tc := ⟨.hbm, 90, rfl⟩
abbrev main_call0_call0_call0_v27 : Ref sig .tc := ⟨.hbm, 91, rfl⟩
abbrev main_call0_call0_call0_c_6 : Ref sig .tc := ⟨.hbm, 92, rfl⟩
abbrev main_call0_call0_call0_v28 : Ref sig .tc := ⟨.hbm, 93, rfl⟩
abbrev main_call0_call0_call0_v29 : Ref sig .tc := ⟨.hbm, 94, rfl⟩
abbrev main_call0_call0_call0_c_7 : Ref sig .tc := ⟨.hbm, 95, rfl⟩
abbrev main_call0_call0_call0_v30 : Ref sig .tc := ⟨.hbm, 96, rfl⟩
abbrev main_call0_call0_call0_v31 : Ref sig .tc := ⟨.hbm, 97, rfl⟩
abbrev main_call0_call0_call0_v32 : Ref sig .tc := ⟨.hbm, 98, rfl⟩
abbrev main_call0_call0_call0_v33 : Ref sig .tc := ⟨.hbm, 99, rfl⟩
abbrev main_call0_call0_call0_v34 : Ref sig .tc := ⟨.hbm, 100, rfl⟩
abbrev main_call0_call0_call0_v35 : Ref sig .tc := ⟨.hbm, 101, rfl⟩
abbrev main_call0_call0_call0_v36 : Ref sig .tc := ⟨.hbm, 102, rfl⟩
abbrev main_call0_call0_call0_v37 : Ref sig .tc := ⟨.hbm, 103, rfl⟩
abbrev main_call0_call0_call0_c_8 : Ref sig .tc := ⟨.hbm, 104, rfl⟩
abbrev main_call0_call0_call0_v38 : Ref sig .tc := ⟨.hbm, 105, rfl⟩
abbrev main_call0_call0_call0_v39 : Ref sig .tc := ⟨.hbm, 106, rfl⟩
abbrev main_call0_call0_call0_v40 : Ref sig .tc := ⟨.hbm, 107, rfl⟩
abbrev main_call0_call0_call0_c_9 : Ref sig .tc := ⟨.hbm, 108, rfl⟩
abbrev main_call0_call0_call0_v41 : Ref sig .tc := ⟨.hbm, 109, rfl⟩
abbrev main_call0_call0_call0_v42 : Ref sig .tc := ⟨.hbm, 110, rfl⟩
abbrev main_call0_call0_call0_c_10 : Ref sig .tc := ⟨.hbm, 111, rfl⟩
abbrev main_call0_call0_call0_v43 : Ref sig .tc := ⟨.hbm, 112, rfl⟩
abbrev main_call0_call0_call0_v44 : Ref sig .tc := ⟨.hbm, 113, rfl⟩
abbrev main_call0_call0_call0_v45 : Ref sig .tc := ⟨.hbm, 114, rfl⟩
abbrev main_call0_call0_call0_v46 : Ref sig .tc := ⟨.hbm, 115, rfl⟩
abbrev main_call0_call0_call0_v47 : Ref sig .tc := ⟨.hbm, 116, rfl⟩
abbrev main_call0_call0_call0_c_11 : Ref sig .tc := ⟨.hbm, 117, rfl⟩
abbrev main_call0_call0_call0_v48 : Ref sig .tc := ⟨.hbm, 118, rfl⟩
abbrev main_call0_call0_call0_v49 : Ref sig .tc := ⟨.hbm, 119, rfl⟩
abbrev main_call0_call0_call0_c_12 : Ref sig .tc := ⟨.hbm, 120, rfl⟩
abbrev main_call0_call0_call0_v50 : Ref sig .tc := ⟨.hbm, 121, rfl⟩
abbrev main_call0_call0_call0_v51 : Ref sig .tc := ⟨.hbm, 122, rfl⟩
abbrev main_call0_call0_call0_v52 : Ref sig .tc := ⟨.hbm, 123, rfl⟩
abbrev main_call0_call0_call0_v53 : Ref sig .tc := ⟨.hbm, 124, rfl⟩
abbrev main_call0_call0_call0_v54 : Ref sig .tc := ⟨.hbm, 125, rfl⟩
abbrev main_call0_call0_call0_c_13 : Ref sig .tc := ⟨.hbm, 126, rfl⟩
abbrev main_call0_call0_call0_v55 : Ref sig .tc := ⟨.hbm, 127, rfl⟩
abbrev main_call0_call0_call0_v56 : Ref sig .tc := ⟨.hbm, 128, rfl⟩
abbrev main_call0_call0_call0_c_14 : Ref sig .tc := ⟨.hbm, 129, rfl⟩
abbrev main_call0_call0_call0_v57 : Ref sig .tc := ⟨.hbm, 130, rfl⟩
abbrev main_call0_call0_call0_v58 : Ref sig .tc := ⟨.hbm, 131, rfl⟩
abbrev main_call0_call0_call0_v59 : Ref sig .tc := ⟨.hbm, 132, rfl⟩
abbrev main_call0_call0_call0_v60 : Ref sig .tc := ⟨.hbm, 133, rfl⟩
abbrev main_call0_call0_call0_v61 : Ref sig .tc := ⟨.hbm, 134, rfl⟩
abbrev main_call0_call0_call0_c_15 : Ref sig .tc := ⟨.hbm, 135, rfl⟩
abbrev main_call0_call0_call0_v62 : Ref sig .tc := ⟨.hbm, 136, rfl⟩
abbrev main_call0_call0_call0_v63 : Ref sig .tc := ⟨.hbm, 137, rfl⟩
abbrev main_call0_call0_call0_c_16 : Ref sig .tc := ⟨.hbm, 138, rfl⟩
abbrev main_call0_call0_call0_v64 : Ref sig .tc := ⟨.hbm, 139, rfl⟩
abbrev main_call0_call0_call0_v65 : Ref sig .tc := ⟨.hbm, 140, rfl⟩
abbrev main_call0_call0_call0_v66 : Ref sig .tc := ⟨.hbm, 141, rfl⟩
abbrev main_call0_call0_call0_v67 : Ref sig .tc := ⟨.hbm, 142, rfl⟩
abbrev main_call0_call0_call0_v68 : Ref sig .tc := ⟨.hbm, 143, rfl⟩
abbrev main_call0_call0_call0_v69 : Ref sig .tc := ⟨.hbm, 144, rfl⟩
abbrev main_call0_call0_call0_v70 : Ref sig .tc := ⟨.hbm, 145, rfl⟩
abbrev main_call0_call0_call0_v71 : Ref sig .tc := ⟨.hbm, 146, rfl⟩
abbrev main_call0_call0_call0_c_17 : Ref sig .tc := ⟨.hbm, 147, rfl⟩
abbrev main_call0_call0_call0_v72 : Ref sig .tc := ⟨.hbm, 148, rfl⟩
abbrev main_call0_call0_call0_v73 : Ref sig .tc := ⟨.hbm, 149, rfl⟩
abbrev main_call0_call0_call0_v74 : Ref sig .tc := ⟨.hbm, 150, rfl⟩
abbrev main_call0_call0_call0_c_18 : Ref sig .tc := ⟨.hbm, 151, rfl⟩
abbrev main_call0_call0_call0_v75 : Ref sig .tc := ⟨.hbm, 152, rfl⟩
abbrev main_call0_call0_call0_v76 : Ref sig .tc := ⟨.hbm, 153, rfl⟩
abbrev main_call0_call0_call0_c_19 : Ref sig .tc := ⟨.hbm, 154, rfl⟩
abbrev main_call0_call0_call0_v77 : Ref sig .tc := ⟨.hbm, 155, rfl⟩
abbrev main_call0_call0_call0_v78 : Ref sig .tc := ⟨.hbm, 156, rfl⟩
abbrev main_call0_call0_call0_v79 : Ref sig .tc := ⟨.hbm, 157, rfl⟩
abbrev main_call0_call0_call0_v80 : Ref sig .tc := ⟨.hbm, 158, rfl⟩
abbrev main_call0_call0_call0_v81 : Ref sig .tc := ⟨.hbm, 159, rfl⟩
abbrev main_call0_call0_call0_c_20 : Ref sig .tc := ⟨.hbm, 160, rfl⟩
abbrev main_call0_call0_call0_v82 : Ref sig .tc := ⟨.hbm, 161, rfl⟩
abbrev main_call0_call0_call0_v83 : Ref sig .tc := ⟨.hbm, 162, rfl⟩
abbrev main_call0_call0_call0_c_21 : Ref sig .tc := ⟨.hbm, 163, rfl⟩
abbrev main_call0_call0_call0_v84 : Ref sig .tc := ⟨.hbm, 164, rfl⟩
abbrev main_call0_call0_call0_v85 : Ref sig .tc := ⟨.hbm, 165, rfl⟩
abbrev main_call0_call0_call0_v86 : Ref sig .tc := ⟨.hbm, 166, rfl⟩
abbrev main_call0_call0_call0_v87 : Ref sig .tc := ⟨.hbm, 167, rfl⟩
abbrev main_call0_call0_call0_v88 : Ref sig .tc := ⟨.hbm, 168, rfl⟩
abbrev main_call0_call0_call0_c_22 : Ref sig .tc := ⟨.hbm, 169, rfl⟩
abbrev main_call0_call0_call0_v89 : Ref sig .tc := ⟨.hbm, 170, rfl⟩
abbrev main_call0_call0_call0_v90 : Ref sig .tc := ⟨.hbm, 171, rfl⟩
abbrev main_call0_call0_call0_c_23 : Ref sig .tc := ⟨.hbm, 172, rfl⟩
abbrev main_call0_call0_call0_v91 : Ref sig .tc := ⟨.hbm, 173, rfl⟩
abbrev main_call0_call0_call0_v92 : Ref sig .tc := ⟨.hbm, 174, rfl⟩
abbrev main_call0_call0_call0_v93 : Ref sig .tc := ⟨.hbm, 175, rfl⟩
abbrev main_call0_call0_call0_v94 : Ref sig .tc := ⟨.hbm, 176, rfl⟩
abbrev main_call0_call0_call0_v95 : Ref sig .tc := ⟨.hbm, 177, rfl⟩
abbrev main_call0_call0_call0_c_24 : Ref sig .tc := ⟨.hbm, 178, rfl⟩
abbrev main_call0_call0_call0_v96 : Ref sig .tc := ⟨.hbm, 179, rfl⟩
abbrev main_call0_call0_call0_v97 : Ref sig .tc := ⟨.hbm, 180, rfl⟩
abbrev main_call0_call0_call0_c_25 : Ref sig .tc := ⟨.hbm, 181, rfl⟩
abbrev main_call0_call0_call0_v98 : Ref sig .tc := ⟨.hbm, 182, rfl⟩
abbrev main_call0_call0_call0_v99 : Ref sig .tc := ⟨.hbm, 183, rfl⟩
abbrev main_call0_call0_call0_v100 : Ref sig .tc := ⟨.hbm, 184, rfl⟩
abbrev main_call0_call0_call0_v101 : Ref sig .tc := ⟨.hbm, 185, rfl⟩
abbrev main_call0_call0_call0_v102 : Ref sig .tc := ⟨.hbm, 186, rfl⟩
abbrev main_call0_call0_call0_v103 : Ref sig .tc := ⟨.hbm, 187, rfl⟩
abbrev main_call0_call0_call0_v104 : Ref sig .tc := ⟨.hbm, 188, rfl⟩
abbrev main_call0_call0_call0_v105 : Ref sig .tc := ⟨.hbm, 189, rfl⟩
abbrev main_call0_call0_call0_c_26 : Ref sig .tc := ⟨.hbm, 190, rfl⟩
abbrev main_call0_call0_call0_v106 : Ref sig .tc := ⟨.hbm, 191, rfl⟩
abbrev main_call0_call0_call0_v107 : Ref sig .tc := ⟨.hbm, 192, rfl⟩
abbrev main_call0_call0_call0_v108 : Ref sig .tc := ⟨.hbm, 193, rfl⟩
abbrev main_call0_call0_call0_c_27 : Ref sig .tc := ⟨.hbm, 194, rfl⟩
abbrev main_call0_call0_call0_v109 : Ref sig .tc := ⟨.hbm, 195, rfl⟩
abbrev main_call0_call0_call0_v110 : Ref sig .tc := ⟨.hbm, 196, rfl⟩
abbrev main_call0_call0_call0_c_28 : Ref sig .tc := ⟨.hbm, 197, rfl⟩
abbrev main_call0_call0_call0_v111 : Ref sig .tc := ⟨.hbm, 198, rfl⟩
abbrev main_call0_call0_call0_v112 : Ref sig .tc := ⟨.hbm, 199, rfl⟩
abbrev main_call0_call0_call0_v113 : Ref sig .tc := ⟨.hbm, 200, rfl⟩
abbrev main_call0_call0_call0_v114 : Ref sig .tc := ⟨.hbm, 201, rfl⟩
abbrev main_call0_call0_call0_v115 : Ref sig .tc := ⟨.hbm, 202, rfl⟩
abbrev main_call0_call0_call0_c_29 : Ref sig .tc := ⟨.hbm, 203, rfl⟩
abbrev main_call0_call0_call0_v116 : Ref sig .tc := ⟨.hbm, 204, rfl⟩
abbrev main_call0_call0_call0_v117 : Ref sig .tc := ⟨.hbm, 205, rfl⟩
abbrev main_call0_call0_call0_c_30 : Ref sig .tc := ⟨.hbm, 206, rfl⟩
abbrev main_call0_call0_call0_v118 : Ref sig .tc := ⟨.hbm, 207, rfl⟩
abbrev main_call0_call0_call0_v119 : Ref sig .tc := ⟨.hbm, 208, rfl⟩
abbrev main_call0_call0_call0_v120 : Ref sig .tc := ⟨.hbm, 209, rfl⟩
abbrev main_call0_call0_call0_v121 : Ref sig .tc := ⟨.hbm, 210, rfl⟩
abbrev main_call0_call0_call0_v122 : Ref sig .tc := ⟨.hbm, 211, rfl⟩
abbrev main_call0_call0_call0_c_31 : Ref sig .tc := ⟨.hbm, 212, rfl⟩
abbrev main_call0_call0_call0_v123 : Ref sig .tc := ⟨.hbm, 213, rfl⟩
abbrev main_call0_call0_call0_v124 : Ref sig .tc := ⟨.hbm, 214, rfl⟩
abbrev main_call0_call0_call0_c_32 : Ref sig .tc := ⟨.hbm, 215, rfl⟩
abbrev main_call0_call0_call0_v125 : Ref sig .tc := ⟨.hbm, 216, rfl⟩
abbrev main_call0_call0_call0_v126 : Ref sig .tc := ⟨.hbm, 217, rfl⟩
abbrev main_call0_call0_call0_v127 : Ref sig .tc := ⟨.hbm, 218, rfl⟩
abbrev main_call0_call0_call0_v128 : Ref sig .tc := ⟨.hbm, 219, rfl⟩
abbrev main_call0_call0_call0_v129 : Ref sig .tc := ⟨.hbm, 220, rfl⟩
abbrev main_call0_call0_call0_c_33 : Ref sig .tc := ⟨.hbm, 221, rfl⟩
abbrev main_call0_call0_call0_v130 : Ref sig .tc := ⟨.hbm, 222, rfl⟩
abbrev main_call0_call0_call0_v131 : Ref sig .tc := ⟨.hbm, 223, rfl⟩
abbrev main_call0_call0_call0_c_34 : Ref sig .tc := ⟨.hbm, 224, rfl⟩
abbrev main_call0_call0_call0_v132 : Ref sig .tc := ⟨.hbm, 225, rfl⟩
abbrev main_call0_call0_call0_v133 : Ref sig .tc := ⟨.hbm, 226, rfl⟩
abbrev main_call0_call0_call0_v134 : Ref sig .tc := ⟨.hbm, 227, rfl⟩
abbrev main_call0_call0_call0_v135 : Ref sig .tc := ⟨.hbm, 228, rfl⟩
abbrev main_call0_call0_call0_v136 : Ref sig .tc := ⟨.hbm, 229, rfl⟩
abbrev main_call0_call0_call0_v137 : Ref sig .tc := ⟨.hbm, 230, rfl⟩
abbrev main_call0_call0_call0_v138 : Ref sig .tc := ⟨.hbm, 231, rfl⟩
abbrev main_call0_call0_call0_v139 : Ref sig .tc := ⟨.hbm, 232, rfl⟩
abbrev main_call0_call0_call0_c_35 : Ref sig .tc := ⟨.hbm, 233, rfl⟩
abbrev main_call0_call0_call0_v140 : Ref sig .tc := ⟨.hbm, 234, rfl⟩
abbrev main_call0_call0_call0_v141 : Ref sig .tc := ⟨.hbm, 235, rfl⟩
abbrev main_call0_call0_call0_v142 : Ref sig .tc := ⟨.hbm, 236, rfl⟩
abbrev main_call0_call0_call0_c_36 : Ref sig .tc := ⟨.hbm, 237, rfl⟩
abbrev main_call0_call0_call0_v143 : Ref sig .tc := ⟨.hbm, 238, rfl⟩
abbrev main_call0_call0_call0_v144 : Ref sig .tc := ⟨.hbm, 239, rfl⟩
abbrev main_call0_call0_call0_c_37 : Ref sig .tc := ⟨.hbm, 240, rfl⟩
abbrev main_call0_call0_call0_v145 : Ref sig .tc := ⟨.hbm, 241, rfl⟩
abbrev main_call0_call0_call0_v146 : Ref sig .tc := ⟨.hbm, 242, rfl⟩
abbrev main_call0_call0_call0_v147 : Ref sig .tc := ⟨.hbm, 243, rfl⟩
abbrev main_call0_call0_call0_v148 : Ref sig .tc := ⟨.hbm, 244, rfl⟩
abbrev main_call0_call0_call0_v149 : Ref sig .tc := ⟨.hbm, 245, rfl⟩
abbrev main_call0_call0_call0_c_38 : Ref sig .tc := ⟨.hbm, 246, rfl⟩
abbrev main_call0_call0_call0_v150 : Ref sig .tc := ⟨.hbm, 247, rfl⟩
abbrev main_call0_call0_call0_v151 : Ref sig .tc := ⟨.hbm, 248, rfl⟩
abbrev main_call0_call0_call0_c_39 : Ref sig .tc := ⟨.hbm, 249, rfl⟩
abbrev main_call0_call0_call0_v152 : Ref sig .tc := ⟨.hbm, 250, rfl⟩
abbrev main_call0_call0_call0_v153 : Ref sig .tc := ⟨.hbm, 251, rfl⟩
abbrev main_call0_call0_call0_v154 : Ref sig .tc := ⟨.hbm, 252, rfl⟩
abbrev main_call0_call0_call0_v155 : Ref sig .tc := ⟨.hbm, 253, rfl⟩
abbrev main_call0_call0_call0_v156 : Ref sig .tc := ⟨.hbm, 254, rfl⟩
abbrev main_call0_call0_call0_c_40 : Ref sig .tc := ⟨.hbm, 255, rfl⟩
abbrev main_call0_call0_call0_v157 : Ref sig .tc := ⟨.hbm, 256, rfl⟩
abbrev main_call0_call0_call0_v158 : Ref sig .tc := ⟨.hbm, 257, rfl⟩
abbrev main_call0_call0_call0_c_41 : Ref sig .tc := ⟨.hbm, 258, rfl⟩
abbrev main_call0_call0_call0_v159 : Ref sig .tc := ⟨.hbm, 259, rfl⟩
abbrev main_call0_call0_call0_v160 : Ref sig .tc := ⟨.hbm, 260, rfl⟩
abbrev main_call0_call0_call0_v161 : Ref sig .tc := ⟨.hbm, 261, rfl⟩
abbrev main_call0_call0_call0_v162 : Ref sig .tc := ⟨.hbm, 262, rfl⟩
abbrev main_call0_call0_call0_v163 : Ref sig .tc := ⟨.hbm, 263, rfl⟩
abbrev main_call0_call0_call0_c_42 : Ref sig .tc := ⟨.hbm, 264, rfl⟩
abbrev main_call0_call0_call0_v164 : Ref sig .tc := ⟨.hbm, 265, rfl⟩
abbrev main_call0_call0_call0_v165 : Ref sig .tc := ⟨.hbm, 266, rfl⟩
abbrev main_call0_call0_call0_c_43 : Ref sig .tc := ⟨.hbm, 267, rfl⟩
abbrev main_call0_call0_call0_v166 : Ref sig .tc := ⟨.hbm, 268, rfl⟩
abbrev main_call0_call0_call0_v167 : Ref sig .tc := ⟨.hbm, 269, rfl⟩
abbrev main_call0_call0_call0_v168 : Ref sig .tc := ⟨.hbm, 270, rfl⟩
abbrev main_call0_call0_call0_v169 : Ref sig .tc := ⟨.hbm, 271, rfl⟩
abbrev main_call0_call0_call0_v170 : Ref sig .tc := ⟨.hbm, 272, rfl⟩
abbrev main_call0_call0_v22_0 : Ref sig .tc := ⟨.hbm, 273, rfl⟩
abbrev main_call0_call0_call0_v172 : Ref sig .tc := ⟨.hbm, 274, rfl⟩
abbrev main_call0_call0_call0_v173 : Ref sig .tc := ⟨.hbm, 275, rfl⟩
abbrev main_call0_call0_call0_c_44 : Ref sig .tc := ⟨.hbm, 276, rfl⟩
abbrev main_call0_call0_call0_v174 : Ref sig .tc := ⟨.hbm, 277, rfl⟩
abbrev main_call0_call0_v22_1 : Ref sig .tc := ⟨.hbm, 278, rfl⟩
abbrev main_call0_call0_v23 : Ref sig .tc := ⟨.hbm, 279, rfl⟩
abbrev main_call0_call0_c_3 : Ref sig .tc := ⟨.hbm, 280, rfl⟩
abbrev main_call0_call0_v24 : Ref sig .tc := ⟨.hbm, 281, rfl⟩
abbrev main_call0_call0_v25 : Ref sig .tc := ⟨.hbm, 282, rfl⟩
abbrev main_call0_call0_c_4 : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_call0_cst : Ref sig .tc := ⟨.hbm, 287, rfl⟩
abbrev main_call0_call0_v29 : Ref sig .tc := ⟨.hbm, 288, rfl⟩
abbrev main_call0_call0_v30 : Ref sig .tc := ⟨.hbm, 289, rfl⟩
abbrev main_call0_call0_v31 : Ref sig .tc := ⟨.hbm, 290, rfl⟩
abbrev main_call0_call0_v32 : Ref sig .tc := ⟨.hbm, 291, rfl⟩
abbrev main_call0_call0_v33 : Ref sig .tc := ⟨.hbm, 292, rfl⟩
abbrev main_call0_call0_v34 : Ref sig .tc := ⟨.hbm, 293, rfl⟩
abbrev main_call0_call0_v35 : Ref sig .tc := ⟨.hbm, 294, rfl⟩
abbrev main_call0_call0_v36 : Ref sig .tc := ⟨.hbm, 295, rfl⟩
abbrev main_call0_v0 : Ref sig .tc := ⟨.hbm, 296, rfl⟩
abbrev main_call0_v1 : Ref sig .tc := ⟨.hbm, 297, rfl⟩
abbrev main_call0_v2 : Ref sig .tc := ⟨.hbm, 298, rfl⟩
abbrev main_call0_v3 : Ref sig .tc := ⟨.hbm, 299, rfl⟩
abbrev main_v15 : Ref sig .tc := ⟨.hbm, 300, rfl⟩
abbrev main_v16 : Ref sig .tc := ⟨.hbm, 301, rfl⟩
abbrev main_call1_v0 : Ref sig .tc := ⟨.hbm, 302, rfl⟩
abbrev main_call1_cst : Ref sig .tc := ⟨.hbm, 303, rfl⟩
abbrev main_call1_c : Ref sig .tc := ⟨.hbm, 304, rfl⟩
abbrev main_call1_v1_0 : Ref sig .tc := ⟨.hbm, 305, rfl⟩
abbrev main_v17 : Ref sig .tc := ⟨.hbm, 306, rfl⟩
abbrev main_call2_v0 : Ref sig .tc := ⟨.hbm, 307, rfl⟩
abbrev main_call2_v1 : Ref sig .tc := ⟨.hbm, 308, rfl⟩
abbrev main_call2_v2 : Ref sig .tc := ⟨.hbm, 309, rfl⟩
abbrev main_call2_v3 : Ref sig .tc := ⟨.hbm, 310, rfl⟩
abbrev main_call2_v4 : Ref sig .tc := ⟨.hbm, 311, rfl⟩
abbrev main_v18 : Ref sig .tc := ⟨.hbm, 312, rfl⟩
abbrev main_v19 : Ref sig .tc := ⟨.hbm, 313, rfl⟩
abbrev main_v20 : Ref sig .tc := ⟨.hbm, 314, rfl⟩
abbrev main_v21 : Ref sig .tc := ⟨.hbm, 315, rfl⟩
abbrev main_v22 : Ref sig .tc := ⟨.hbm, 316, rfl⟩
abbrev main_v23 : Ref sig .tc := ⟨.hbm, 317, rfl⟩
abbrev main_v24 : Ref sig .tc := ⟨.hbm, 318, rfl⟩
abbrev main_v25_0 : Ref sig .tc := ⟨.hbm, 319, rfl⟩
abbrev main_v25_1 : Ref sig .tc := ⟨.hbm, 320, rfl⟩
abbrev main_v26 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_28 : BitVec 32 := 0#32
  let v33 : BitVec 1 := Scalar.cmpi .ne v32 c0_i32_28
  v33

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![13], ![false]⟩

def k1_cond3 (i : grid1.Coords) : BitVec 1 :=
  let arg0 : BitVec 32 := BitVec.ofNat 32 (i 0).val
  let c12_i32 : BitVec 32 := 12#32
  let v24 : BitVec 1 := Scalar.cmpi .eq arg0 c12_i32
  let v25 : BitVec 32 := Scalar.extui v24
  let c0_i32_12 : BitVec 32 := 0#32
  let v26 : BitVec 1 := Scalar.cmpi .ne v25 c0_i32_12
  v26

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![9], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S32x12288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x12288 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S3x32x16384 : Shape := ⟨3, ![3, 32, 16384]⟩
abbrev S16384x256 : Shape := ⟨2, ![16384, 256]⟩
abbrev S256 : Shape := ⟨1, ![256]⟩
abbrev S256x100000 : Shape := ⟨2, ![256, 100000]⟩
abbrev S100000 : Shape := ⟨1, ![100000]⟩
abbrev S1x32x16384 : Shape := ⟨3, ![1, 32, 16384]⟩
abbrev S32x16384 : Shape := ⟨2, ![32, 16384]⟩
abbrev S32x256 : Shape := ⟨2, ![32, 256]⟩
abbrev S1x256 : Shape := ⟨2, ![1, 256]⟩
abbrev S_ : Shape := ⟨0, ![]⟩
abbrev S32x3 : Shape := ⟨2, ![32, 3]⟩
abbrev S32 : Shape := ⟨1, ![32]⟩
abbrev S32x1 : Shape := ⟨2, ![32, 1]⟩
abbrev S32x1x3 : Shape := ⟨3, ![32, 1, 3]⟩
abbrev S32x256x3 : Shape := ⟨3, ![32, 256, 3]⟩
abbrev S1 : Shape := ⟨1, ![1]⟩
abbrev S2 : Shape := ⟨1, ![2]⟩
abbrev S1x1x1 : Shape := ⟨3, ![1, 1, 1]⟩
abbrev S32x256x1 : Shape := ⟨3, ![32, 256, 1]⟩
abbrev S1x1x3 : Shape := ⟨3, ![1, 1, 3]⟩
abbrev S32x100000 : Shape := ⟨2, ![32, 100000]⟩
abbrev S1x100000 : Shape := ⟨2, ![1, 100000]⟩

abbrev nBuf : Space → Nat
  | .hbm => 357
  | .vmem => 0
  | .smem => 0
  | _ => 0

abbrev hbmTy0_0 (i : Nat) : BufTy := match i % 128 with
  | 0 => ⟨S3x32x16384, .f32⟩
  | 1 => ⟨S16384x256, .f32⟩
  | 2 => ⟨S256, .f32⟩
  | 3 => ⟨S16384x256, .f32⟩
  | 4 => ⟨S256, .f32⟩
  | 5 => ⟨S16384x256, .f32⟩
  | 6 => ⟨S256, .f32⟩
  | 7 => ⟨S256x100000, .f32⟩
  | 8 => ⟨S100000, .f32⟩
  | 9 => ⟨S1x32x16384, .f32⟩
  | 10 => ⟨S32x16384, .f32⟩
  | 11 => ⟨S1x32x16384, .f32⟩
  | 12 => ⟨S32x16384, .f32⟩
  | 13 => ⟨S1x32x16384, .f32⟩
  | 14 => ⟨S32x16384, .f32⟩
  | 15 => ⟨S32x256, .f32⟩
  | 16 => ⟨S1x256, .f32⟩
  | 17 => ⟨S32x256, .f32⟩
  | 18 => ⟨S32x256, .f32⟩
  | 19 => ⟨S32x256, .f32⟩
  | 20 => ⟨S1x256, .f32⟩
  | 21 => ⟨S32x256, .f32⟩
  | 22 => ⟨S32x256, .f32⟩
  | 23 => ⟨S32x256, .f32⟩
  | 24 => ⟨S1x256, .f32⟩
  | 25 => ⟨S32x256, .f32⟩
  | 26 => ⟨S32x256, .f32⟩
  | 27 => ⟨S_, .f32⟩
  | 28 => ⟨S32x3, .f32⟩
  | 29 => ⟨S_, .f32⟩
  | 30 => ⟨S32, .f32⟩
  | 31 => ⟨S32x1, .f32⟩
  | 32 => ⟨S32x3, .f32⟩
  | 33 => ⟨S32x3, .f32⟩
  | 34 => ⟨S32x3, .f32⟩
  | 35 => ⟨S32x1x3, .f32⟩
  | 36 => ⟨S32x256x3, .f32⟩
  | 37 => ⟨S_, .i32⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S1, .i32⟩
  | 46 => ⟨S2, .i32⟩
  | 47 => ⟨S_, .f32⟩
  | 48 => ⟨S_, .f32⟩
  | 49 => ⟨S_, .f32⟩
  | 50 => ⟨S1x1x1, .f32⟩
  | 51 => ⟨S1x1x1, .f32⟩
  | 52 => ⟨S1, .i32⟩
  | 53 => ⟨S_, .i32⟩
  | 54 => ⟨S1, .i32⟩
  | 55 => ⟨S_, .i32⟩
  | 56 => ⟨S32x256x3, .i64⟩
  | 57 => ⟨S32x256x3, .i64⟩
  | 58 => ⟨S32x256x3, .i64⟩
  | 59 => ⟨S_, .i64⟩
  | 60 => ⟨S32x256x3, .i64⟩
  | 61 => ⟨S32x256x3, .i64⟩
  | 62 => ⟨S_, .i64⟩
  | 63 => ⟨S32x256x3, .i64⟩
  | 64 => ⟨S32x256x3, .i64⟩
  | 65 => ⟨S_, .i64⟩
  | 66 => ⟨S32x256x3, .i64⟩
  | 67 => ⟨S32x256x3, .i64⟩
  | 68 => ⟨S32x256x3, .i64⟩
  | 69 => ⟨S32x256x3, .i64⟩
  | 70 => ⟨S_, .i64⟩
  | 71 => ⟨S32x256x3, .i64⟩
  | 72 => ⟨S32x256x3, .i64⟩
  | 73 => ⟨S32x256x3, .i32⟩
  | 74 => ⟨S32x256x3, .i32⟩
  | 75 => ⟨S_, .i32⟩
  | 76 => ⟨S_, .i32⟩
  | 77 => ⟨S_, .i32⟩
  | 78 => ⟨S32x256x3, .i32⟩
  | 79 => ⟨S32x256x3, .i32⟩
  | 80 => ⟨S32x256x3, .i32⟩
  | 81 => ⟨S32x256x3, .i32⟩
  | 82 => ⟨S32x256x3, .i32⟩
  | 83 => ⟨S_, .i32⟩
  | 84 => ⟨S32x256x3, .i32⟩
  | 85 => ⟨S32x256x3, .i32⟩
  | 86 => ⟨S_, .i32⟩
  | 87 => ⟨S32x256x3, .i32⟩
  | 88 => ⟨S32x256x3, .i32⟩
  | 89 => ⟨S32x256x3, .i32⟩
  | 90 => ⟨S32x256x3, .i32⟩
  | 91 => ⟨S32x256x3, .i32⟩
  | 92 => ⟨S_, .i32⟩
  | 93 => ⟨S32x256x3, .i32⟩
  | 94 => ⟨S32x256x3, .i32⟩
  | 95 => ⟨S_, .i32⟩
  | 96 => ⟨S32x256x3, .i32⟩
  | 97 => ⟨S32x256x3, .i32⟩
  | 98 => ⟨S32x256x3, .i32⟩
  | 99 => ⟨S32x256x3, .i32⟩
  | 100 => ⟨S32x256x3, .i32⟩
  | 101 => ⟨S_, .i32⟩
  | 102 => ⟨S32x256x3, .i32⟩
  | 103 => ⟨S32x256x3, .i32⟩
  | 104 => ⟨S_, .i32⟩
  | 105 => ⟨S32x256x3, .i32⟩
  | 106 => ⟨S32x256x3, .i32⟩
  | 107 => ⟨S32x256x3, .i32⟩
  | 108 => ⟨S32x256x3, .i32⟩
  | 109 => ⟨S32x256x3, .i32⟩
  | 110 => ⟨S_, .i32⟩
  | 111 => ⟨S32x256x3, .i32⟩
  | 112 => ⟨S32x256x3, .i32⟩
  | 113 => ⟨S_, .i32⟩
  | 114 => ⟨S32x256x3, .i32⟩
  | 115 => ⟨S32x256x3, .i32⟩
  | 116 => ⟨S32x256x3, .i32⟩
  | 117 => ⟨S32x256x3, .i32⟩
  | 118 => ⟨S32x256x3, .i32⟩
  | 119 => ⟨S32x256x3, .i32⟩
  | 120 => ⟨S32x256x3, .i32⟩
  | 121 => ⟨S32x256x3, .i32⟩
  | 122 => ⟨S_, .i32⟩
  | 123 => ⟨S32x256x3, .i32⟩
  | 124 => ⟨S32x256x3, .i32⟩
  | 125 => ⟨S32x256x3, .i32⟩
  | 126 => ⟨S_, .i32⟩
  | 127 => ⟨S32x256x3, .i32⟩
  | _ => ⟨S3x32x16384, .f32⟩

abbrev hbmTy0_1 (i : Nat) : BufTy := match i % 128 with
  | 0 => ⟨S32x256x3, .i32⟩
  | 1 => ⟨S_, .i32⟩
  | 2 => ⟨S32x256x3, .i32⟩
  | 3 => ⟨S32x256x3, .i32⟩
  | 4 => ⟨S32x256x3, .i32⟩
  | 5 => ⟨S32x256x3, .i32⟩
  | 6 => ⟨S32x256x3, .i32⟩
  | 7 => ⟨S_, .i32⟩
  | 8 => ⟨S32x256x3, .i32⟩
  | 9 => ⟨S32x256x3, .i32⟩
  | 10 => ⟨S_, .i32⟩
  | 11 => ⟨S32x256x3, .i32⟩
  | 12 => ⟨S32x256x3, .i32⟩
  | 13 => ⟨S32x256x3, .i32⟩
  | 14 => ⟨S32x256x3, .i32⟩
  | 15 => ⟨S32x256x3, .i32⟩
  | 16 => ⟨S_, .i32⟩
  | 17 => ⟨S32x256x3, .i32⟩
  | 18 => ⟨S32x256x3, .i32⟩
  | 19 => ⟨S_, .i32⟩
  | 20 => ⟨S32x256x3, .i32⟩
  | 21 => ⟨S32x256x3, .i32⟩
  | 22 => ⟨S32x256x3, .i32⟩
  | 23 => ⟨S32x256x3, .i32⟩
  | 24 => ⟨S32x256x3, .i32⟩
  | 25 => ⟨S_, .i32⟩
  | 26 => ⟨S32x256x3, .i32⟩
  | 27 => ⟨S32x256x3, .i32⟩
  | 28 => ⟨S_, .i32⟩
  | 29 => ⟨S32x256x3, .i32⟩
  | 30 => ⟨S32x256x3, .i32⟩
  | 31 => ⟨S32x256x3, .i32⟩
  | 32 => ⟨S32x256x3, .i32⟩
  | 33 => ⟨S32x256x3, .i32⟩
  | 34 => ⟨S32x256x3, .i32⟩
  | 35 => ⟨S32x256x3, .i32⟩
  | 36 => ⟨S32x256x3, .i32⟩
  | 37 => ⟨S_, .i32⟩
  | 38 => ⟨S32x256x3, .i32⟩
  | 39 => ⟨S32x256x3, .i32⟩
  | 40 => ⟨S32x256x3, .i32⟩
  | 41 => ⟨S_, .i32⟩
  | 42 => ⟨S32x256x3, .i32⟩
  | 43 => ⟨S32x256x3, .i32⟩
  | 44 => ⟨S_, .i32⟩
  | 45 => ⟨S32x256x3, .i32⟩
  | 46 => ⟨S32x256x3, .i32⟩
  | 47 => ⟨S32x256x3, .i32⟩
  | 48 => ⟨S32x256x3, .i32⟩
  | 49 => ⟨S32x256x3, .i32⟩
  | 50 => ⟨S_, .i32⟩
  | 51 => ⟨S32x256x3, .i32⟩
  | 52 => ⟨S32x256x3, .i32⟩
  | 53 => ⟨S_, .i32⟩
  | 54 => ⟨S32x256x3, .i32⟩
  | 55 => ⟨S32x256x3, .i32⟩
  | 56 => ⟨S32x256x3, .i32⟩
  | 57 => ⟨S32x256x3, .i32⟩
  | 58 => ⟨S32x256x3, .i32⟩
  | 59 => ⟨S_, .i32⟩
  | 60 => ⟨S32x256x3, .i32⟩
  | 61 => ⟨S32x256x3, .i32⟩
  | 62 => ⟨S_, .i32⟩
  | 63 => ⟨S32x256x3, .i32⟩
  | 64 => ⟨S32x256x3, .i32⟩
  | 65 => ⟨S32x256x3, .i32⟩
  | 66 => ⟨S32x256x3, .i32⟩
  | 67 => ⟨S32x256x3, .i32⟩
  | 68 => ⟨S_, .i32⟩
  | 69 => ⟨S32x256x3, .i32⟩
  | 70 => ⟨S32x256x3, .i32⟩
  | 71 => ⟨S_, .i32⟩
  | 72 => ⟨S32x256x3, .i32⟩
  | 73 => ⟨S32x256x3, .i32⟩
  | 74 => ⟨S32x256x3, .i32⟩
  | 75 => ⟨S32x256x3, .i32⟩
  | 76 => ⟨S32x256x3, .i32⟩
  | 77 => ⟨S32x256x3, .i32⟩
  | 78 => ⟨S32x256x3, .i32⟩
  | 79 => ⟨S32x256x3, .i32⟩
  | 80 => ⟨S_, .i32⟩
  | 81 => ⟨S32x256x3, .i32⟩
  | 82 => ⟨S32x256x3, .i32⟩
  | 83 => ⟨S32x256x3, .i32⟩
  | 84 => ⟨S_, .i32⟩
  | 85 => ⟨S32x256x3, .i32⟩
  | 86 => ⟨S32x256x3, .i32⟩
  | 87 => ⟨S_, .i32⟩
  | 88 => ⟨S32x256x3, .i32⟩
  | 89 => ⟨S32x256x3, .i32⟩
  | 90 => ⟨S32x256x3, .i32⟩
  | 91 => ⟨S32x256x3, .i32⟩
  | 92 => ⟨S32x256x3, .i32⟩
  | 93 => ⟨S_, .i32⟩
  | 94 => ⟨S32x256x3, .i32⟩
  | 95 => ⟨S32x256x3, .i32⟩
  | 96 => ⟨S_, .i32⟩
  | 97 => ⟨S32x256x3, .i32⟩
  | 98 => ⟨S32x256x3, .i32⟩
  | 99 => ⟨S32x256x3, .i32⟩
  | 100 => ⟨S32x256x3, .i32⟩
  | 101 => ⟨S32x256x3, .i32⟩
  | 102 => ⟨S_, .i32⟩
  | 103 => ⟨S32x256x3, .i32⟩
  | 104 => ⟨S32x256x3, .i32⟩
  | 105 => ⟨S_, .i32⟩
  | 106 => ⟨S32x256x3, .i32⟩
  | 107 => ⟨S32x256x3, .i32⟩
  | 108 => ⟨S32x256x3, .i32⟩
  | 109 => ⟨S32x256x3, .i32⟩
  | 110 => ⟨S32x256x3, .i32⟩
  | 111 => ⟨S_, .i32⟩
  | 112 => ⟨S32x256x3, .i32⟩
  | 113 => ⟨S32x256x3, .i32⟩
  | 114 => ⟨S_, .i32⟩
  | 115 => ⟨S32x256x3, .i32⟩
  | 116 => ⟨S32x256x3, .i32⟩
  | 117 => ⟨S32x256x3, .i32⟩
  | 118 => ⟨S32x256x3, .i32⟩
  | 119 => ⟨S32x256x3, .i32⟩
  | 120 => ⟨S32x256x3, .i32⟩
  | 121 => ⟨S32x256x3, .i32⟩
  | 122 => ⟨S32x256x3, .i32⟩
  | 123 => ⟨S_, .i32⟩
  | 124 => ⟨S32x256x3, .i32⟩
  | 125 => ⟨S32x256x3, .i32⟩
  | 126 => ⟨S32x256x3, .i32⟩
  | 127 => ⟨S_, .i32⟩
  | _ => ⟨S3x32x16384, .f32⟩

abbrev hbmTy0_2 (i : Nat) : BufTy := match i % 128 with
  | 0 => ⟨S32x256x3, .i32⟩
  | 1 => ⟨S32x256x3, .i32⟩
  | 2 => ⟨S_, .i32⟩
  | 3 => ⟨S32x256x3, .i32⟩
  | 4 => ⟨S32x256x3, .i32⟩
  | 5 => ⟨S32x256x3, .i32⟩
  | 6 => ⟨S32x256x3, .i32⟩
  | 7 => ⟨S32x256x3, .i32⟩
  | 8 => ⟨S_, .i32⟩
  | 9 => ⟨S32x256x3, .i32⟩
  | 10 => ⟨S32x256x3, .i32⟩
  | 11 => ⟨S_, .i32⟩
  | 12 => ⟨S32x256x3, .i32⟩
  | 13 => ⟨S32x256x3, .i32⟩
  | 14 => ⟨S32x256x3, .i32⟩
  | 15 => ⟨S32x256x3, .i32⟩
  | 16 => ⟨S32x256x3, .i32⟩
  | 17 => ⟨S_, .i32⟩
  | 18 => ⟨S32x256x3, .i32⟩
  | 19 => ⟨S32x256x3, .i32⟩
  | 20 => ⟨S_, .i32⟩
  | 21 => ⟨S32x256x3, .i32⟩
  | 22 => ⟨S32x256x3, .i32⟩
  | 23 => ⟨S32x256x3, .i32⟩
  | 24 => ⟨S32x256x3, .i32⟩
  | 25 => ⟨S32x256x3, .i32⟩
  | 26 => ⟨S_, .i32⟩
  | 27 => ⟨S32x256x3, .i32⟩
  | 28 => ⟨S32x256x3, .i32⟩
  | 29 => ⟨S_, .i32⟩
  | 30 => ⟨S32x256x3, .i32⟩
  | 31 => ⟨S32x256x3, .i32⟩
  | 32 => ⟨S32x256x3, .i32⟩
  | 33 => ⟨S32x256x3, .i32⟩
  | 34 => ⟨S32x256x3, .i32⟩
  | 35 => ⟨S32x256x3, .i32⟩
  | 36 => ⟨S32x256x3, .i32⟩
  | 37 => ⟨S32x256x3, .i32⟩
  | 38 => ⟨S_, .i32⟩
  | 39 => ⟨S32x256x3, .i32⟩
  | 40 => ⟨S32x256x3, .i32⟩
  | 41 => ⟨S32x256x3, .i32⟩
  | 42 => ⟨S_, .i32⟩
  | 43 => ⟨S32x256x3, .i32⟩
  | 44 => ⟨S32x256x3, .i32⟩
  | 45 => ⟨S_, .i32⟩
  | 46 => ⟨S32x256x3, .i32⟩
  | 47 => ⟨S32x256x3, .i32⟩
  | 48 => ⟨S32x256x3, .f32⟩
  | 49 => ⟨S_, .f32⟩
  | 50 => ⟨S32x256x3, .f32⟩
  | 51 => ⟨S32x256x3, .f32⟩
  | 52 => ⟨S1x1x1, .f32⟩
  | 53 => ⟨S32x256x3, .f32⟩
  | 54 => ⟨S32x256x3, .f32⟩
  | 55 => ⟨S32x256x3, .f32⟩
  | 56 => ⟨S32x256x3, .f32⟩
  | 57 => ⟨S32x256x3, .f32⟩
  | 58 => ⟨S32x256x3, .f32⟩
  | 59 => ⟨S32x256x3, .f32⟩
  | 60 => ⟨S32x256x3, .f32⟩
  | 61 => ⟨S32x256x3, .f32⟩
  | 62 => ⟨S32x256x3, .f32⟩
  | 63 => ⟨S32x256x3, .f32⟩
  | 64 => ⟨S32x256x3, .i32⟩
  | 65 => ⟨S_, .f32⟩
  | 66 => ⟨S_, .i32⟩
  | 67 => ⟨S32x256, .f32⟩
  | 68 => ⟨S32x256, .i32⟩
  | 69 => ⟨S32x256x1, .i32⟩
  | 70 => ⟨S1x1x3, .i32⟩
  | 71 => ⟨S32x256x3, .i32⟩
  | 72 => ⟨S32x256x3, .i32⟩
  | 73 => ⟨S32x256x3, .i1⟩
  | 74 => ⟨S32x256x3, .f32⟩
  | 75 => ⟨S32x256x1, .f32⟩
  | 76 => ⟨S32x256x1, .f32⟩
  | 77 => ⟨S32x256x1, .f32⟩
  | 78 => ⟨S32x256x3, .f32⟩
  | 79 => ⟨S32x256x3, .f32⟩
  | 80 => ⟨S_, .f32⟩
  | 81 => ⟨S32x256, .f32⟩
  | 82 => ⟨S32x100000, .f32⟩
  | 83 => ⟨S1x100000, .f32⟩
  | 84 => ⟨S32x100000, .f32⟩
  | 85 => ⟨S32x100000, .f32⟩
  | 86 => ⟨S_, .f32⟩
  | 87 => ⟨S32, .f32⟩
  | 88 => ⟨S_, .f32⟩
  | 89 => ⟨S32, .f32⟩
  | 90 => ⟨S32, .f32⟩
  | 91 => ⟨S32x1, .f32⟩
  | 92 => ⟨S32x100000, .f32⟩
  | 93 => ⟨S32x100000, .f32⟩
  | 94 => ⟨S32x100000, .f32⟩
  | 95 => ⟨S_, .f32⟩
  | 96 => ⟨S32, .f32⟩
  | 97 => ⟨S32x1, .f32⟩
  | 98 => ⟨S32x1, .f32⟩
  | 99 => ⟨S32x100000, .f32⟩
  | 100 => ⟨S32x100000, .f32⟩
  | _ => ⟨S3x32x16384, .f32⟩

abbrev hbmTy (i : Nat) : BufTy := match i / 128 with
  | 0 => hbmTy0_0 i
  | 1 => hbmTy0_1 i
  | 2 => hbmTy0_2 i
  | _ => ⟨S3x32x16384, .f32⟩

abbrev bufTy : (tb : Table) → Fin (tcTables nBuf tb) → BufTy
  | .hbm, ⟨i, _⟩ => hbmTy i
  | _, _ => ⟨S3x32x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_cst_0 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_c : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_c_0 : Ref sig .tc := ⟨.hbm, 62, rfl⟩
abbrev main_call0_call0_v12 : Ref sig .tc := ⟨.hbm, 63, rfl⟩
abbrev main_call0_call0_v13 : Ref sig .tc := ⟨.hbm, 64, rfl⟩
abbrev main_call0_call0_c_1 : Ref sig .tc := ⟨.hbm, 65, rfl⟩
abbrev main_call0_call0_v14 : Ref sig .tc := ⟨.hbm, 66, rfl⟩
abbrev main_call0_call0_v15 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_c_2 : Ref sig .tc := ⟨.hbm, 70, rfl⟩
abbrev main_call0_call0_v18 : Ref sig .tc := ⟨.hbm, 71, rfl⟩
abbrev main_call0_call0_v19 : Ref sig .tc := ⟨.hbm, 72, rfl⟩
abbrev main_call0_call0_v20 : Ref sig .tc := ⟨.hbm, 73, rfl⟩
abbrev main_call0_call0_v21 : Ref sig .tc := ⟨.hbm, 74, rfl⟩
abbrev main_call0_call0_call0_v0 : Ref sig .tc := ⟨.hbm, 75, rfl⟩
abbrev main_call0_call0_call0_c : Ref sig .tc := ⟨.hbm, 76, rfl⟩
abbrev main_call0_call0_call0_v1 : Ref sig .tc := ⟨.hbm, 77, rfl⟩
abbrev main_call0_call0_call0_v2 : Ref sig .tc := ⟨.hbm, 78, rfl⟩
abbrev main_call0_call0_call0_v3 : Ref sig .tc := ⟨.hbm, 79, rfl⟩
abbrev main_call0_call0_call0_v4 : Ref sig .tc := ⟨.hbm, 80, rfl⟩
abbrev main_call0_call0_call0_v5 : Ref sig .tc := ⟨.hbm, 81, rfl⟩
abbrev main_call0_call0_call0_v6 : Ref sig .tc := ⟨.hbm, 82, rfl⟩
abbrev main_call0_call0_call0_c_0 : Ref sig .tc := ⟨.hbm, 83, rfl⟩
abbrev main_call0_call0_call0_v7 : Ref sig .tc := ⟨.hbm, 84, rfl⟩
abbrev main_call0_call0_call0_v8 : Ref sig .tc := ⟨.hbm, 85, rfl⟩
abbrev main_call0_call0_call0_c_1 : Ref sig .tc := ⟨.hbm, 86, rfl⟩
abbrev main_call0_call0_call0_v9 : Ref sig .tc := ⟨.hbm, 87, rfl⟩
abbrev main_call0_call0_call0_v10 : Ref sig .tc := ⟨.hbm, 88, rfl⟩
abbrev main_call0_call0_call0_v11 : Ref sig .tc := ⟨.hbm, 89, rfl⟩
abbrev main_call0_call0_call0_v12 : Ref sig .tc := ⟨.hbm, 90, rfl⟩
abbrev main_call0_call0_call0_v13 : Ref sig .tc := ⟨.hbm, 91, rfl⟩
abbrev main_call0_call0_call0_c_2 : Ref sig .tc := ⟨.hbm, 92, rfl⟩
abbrev main_call0_call0_call0_v14 : Ref sig .tc := ⟨.hbm, 93, rfl⟩
abbrev main_call0_call0_call0_v15 : Ref sig .tc := ⟨.hbm, 94, rfl⟩
abbrev main_call0_call0_call0_c_3 : Ref sig .tc := ⟨.hbm, 95, rfl⟩
abbrev main_call0_call0_call0_v16 : Ref sig .tc := ⟨.hbm, 96, rfl⟩
abbrev main_call0_call0_call0_v17 : Ref sig .tc := ⟨.hbm, 97, rfl⟩
abbrev main_call0_call0_call0_v18 : Ref sig .tc := ⟨.hbm, 98, rfl⟩
abbrev main_call0_call0_call0_v19 : Ref sig .tc := ⟨.hbm, 99, rfl⟩
abbrev main_call0_call0_call0_v20 : Ref sig .tc := ⟨.hbm, 100, rfl⟩
abbrev main_call0_call0_call0_c_4 : Ref sig .tc := ⟨.hbm, 101, rfl⟩
abbrev main_call0_call0_call0_v21 : Ref sig .tc := ⟨.hbm, 102, rfl⟩
abbrev main_call0_call0_call0_v22 : Ref sig .tc := ⟨.hbm, 103, rfl⟩
abbrev main_call0_call0_call0_c_5 : Ref sig .tc := ⟨.hbm, 104, rfl⟩
abbrev main_call0_call0_call0_v23 : Ref sig .tc := ⟨.hbm, 105, rfl⟩
abbrev main_call0_call0_call0_v24 : Ref sig .tc := ⟨.hbm, 106, rfl⟩
abbrev main_call0_call0_call0_v25 : Ref sig .tc := ⟨.hbm, 107, rfl⟩
abbrev main_call0_call0_call0_v26 : Ref sig .tc := ⟨.hbm, 108, rfl⟩
abbrev main_call0_call0_call0_v27 : Ref sig .tc := ⟨.hbm, 109, rfl⟩
abbrev main_call0_call0_call0_c_6 : Ref sig .tc := ⟨.hbm, 110, rfl⟩
abbrev main_call0_call0_call0_v28 : Ref sig .tc := ⟨.hbm, 111, rfl⟩
abbrev main_call0_call0_call0_v29 : Ref sig .tc := ⟨.hbm, 112, rfl⟩
abbrev main_call0_call0_call0_c_7 : Ref sig .tc := ⟨.hbm, 113, rfl⟩
abbrev main_call0_call0_call0_v30 : Ref sig .tc := ⟨.hbm, 114, rfl⟩
abbrev main_call0_call0_call0_v31 : Ref sig .tc := ⟨.hbm, 115, rfl⟩
abbrev main_call0_call0_call0_v32 : Ref sig .tc := ⟨.hbm, 116, rfl⟩
abbrev main_call0_call0_call0_v33 : Ref sig .tc := ⟨.hbm, 117, rfl⟩
abbrev main_call0_call0_call0_v34 : Ref sig .tc := ⟨.hbm, 118, rfl⟩
abbrev main_call0_call0_call0_v35 : Ref sig .tc := ⟨.hbm, 119, rfl⟩
abbrev main_call0_call0_call0_v36 : Ref sig .tc := ⟨.hbm, 120, rfl⟩
abbrev main_call0_call0_call0_v37 : Ref sig .tc := ⟨.hbm, 121, rfl⟩
abbrev main_call0_call0_call0_c_8 : Ref sig .tc := ⟨.hbm, 122, rfl⟩
abbrev main_call0_call0_call0_v38 : Ref sig .tc := ⟨.hbm, 123, rfl⟩
abbrev main_call0_call0_call0_v39 : Ref sig .tc := ⟨.hbm, 124, rfl⟩
abbrev main_call0_call0_call0_v40 : Ref sig .tc := ⟨.hbm, 125, rfl⟩
abbrev main_call0_call0_call0_c_9 : Ref sig .tc := ⟨.hbm, 126, rfl⟩
abbrev main_call0_call0_call0_v41 : Ref sig .tc := ⟨.hbm, 127, rfl⟩
abbrev main_call0_call0_call0_v42 : Ref sig .tc := ⟨.hbm, 128, rfl⟩
abbrev main_call0_call0_call0_c_10 : Ref sig .tc := ⟨.hbm, 129, rfl⟩
abbrev main_call0_call0_call0_v43 : Ref sig .tc := ⟨.hbm, 130, rfl⟩
abbrev main_call0_call0_call0_v44 : Ref sig .tc := ⟨.hbm, 131, rfl⟩
abbrev main_call0_call0_call0_v45 : Ref sig .tc := ⟨.hbm, 132, rfl⟩
abbrev main_call0_call0_call0_v46 : Ref sig .tc := ⟨.hbm, 133, rfl⟩
abbrev main_call0_call0_call0_v47 : Ref sig .tc := ⟨.hbm, 134, rfl⟩
abbrev main_call0_call0_call0_c_11 : Ref sig .tc := ⟨.hbm, 135, rfl⟩
abbrev main_call0_call0_call0_v48 : Ref sig .tc := ⟨.hbm, 136, rfl⟩
abbrev main_call0_call0_call0_v49 : Ref sig .tc := ⟨.hbm, 137, rfl⟩
abbrev main_call0_call0_call0_c_12 : Ref sig .tc := ⟨.hbm, 138, rfl⟩
abbrev main_call0_call0_call0_v50 : Ref sig .tc := ⟨.hbm, 139, rfl⟩
abbrev main_call0_call0_call0_v51 : Ref sig .tc := ⟨.hbm, 140, rfl⟩
abbrev main_call0_call0_call0_v52 : Ref sig .tc := ⟨.hbm, 141, rfl⟩
abbrev main_call0_call0_call0_v53 : Ref sig .tc := ⟨.hbm, 142, rfl⟩
abbrev main_call0_call0_call0_v54 : Ref sig .tc := ⟨.hbm, 143, rfl⟩
abbrev main_call0_call0_call0_c_13 : Ref sig .tc := ⟨.hbm, 144, rfl⟩
abbrev main_call0_call0_call0_v55 : Ref sig .tc := ⟨.hbm, 145, rfl⟩
abbrev main_call0_call0_call0_v56 : Ref sig .tc := ⟨.hbm, 146, rfl⟩
abbrev main_call0_call0_call0_c_14 : Ref sig .tc := ⟨.hbm, 147, rfl⟩
abbrev main_call0_call0_call0_v57 : Ref sig .tc := ⟨.hbm, 148, rfl⟩
abbrev main_call0_call0_call0_v58 : Ref sig .tc := ⟨.hbm, 149, rfl⟩
abbrev main_call0_call0_call0_v59 : Ref sig .tc := ⟨.hbm, 150, rfl⟩
abbrev main_call0_call0_call0_v60 : Ref sig .tc := ⟨.hbm, 151, rfl⟩
abbrev main_call0_call0_call0_v61 : Ref sig .tc := ⟨.hbm, 152, rfl⟩
abbrev main_call0_call0_call0_c_15 : Ref sig .tc := ⟨.hbm, 153, rfl⟩
abbrev main_call0_call0_call0_v62 : Ref sig .tc := ⟨.hbm, 154, rfl⟩
abbrev main_call0_call0_call0_v63 : Ref sig .tc := ⟨.hbm, 155, rfl⟩
abbrev main_call0_call0_call0_c_16 : Ref sig .tc := ⟨.hbm, 156, rfl⟩
abbrev main_call0_call0_call0_v64 : Ref sig .tc := ⟨.hbm, 157, rfl⟩
abbrev main_call0_call0_call0_v65 : Ref sig .tc := ⟨.hbm, 158, rfl⟩
abbrev main_call0_call0_call0_v66 : Ref sig .tc := ⟨.hbm, 159, rfl⟩
abbrev main_call0_call0_call0_v67 : Ref sig .tc := ⟨.hbm, 160, rfl⟩
abbrev main_call0_call0_call0_v68 : Ref sig .tc := ⟨.hbm, 161, rfl⟩
abbrev main_call0_call0_call0_v69 : Ref sig .tc := ⟨.hbm, 162, rfl⟩
abbrev main_call0_call0_call0_v70 : Ref sig .tc := ⟨.hbm, 163, rfl⟩
abbrev main_call0_call0_call0_v71 : Ref sig .tc := ⟨.hbm, 164, rfl⟩
abbrev main_call0_call0_call0_c_17 : Ref sig .tc := ⟨.hbm, 165, rfl⟩
abbrev main_call0_call0_call0_v72 : Ref sig .tc := ⟨.hbm, 166, rfl⟩
abbrev main_call0_call0_call0_v73 : Ref sig .tc := ⟨.hbm, 167, rfl⟩
abbrev main_call0_call0_call0_v74 : Ref sig .tc := ⟨.hbm, 168, rfl⟩
abbrev main_call0_call0_call0_c_18 : Ref sig .tc := ⟨.hbm, 169, rfl⟩
abbrev main_call0_call0_call0_v75 : Ref sig .tc := ⟨.hbm, 170, rfl⟩
abbrev main_call0_call0_call0_v76 : Ref sig .tc := ⟨.hbm, 171, rfl⟩
abbrev main_call0_call0_call0_c_19 : Ref sig .tc := ⟨.hbm, 172, rfl⟩
abbrev main_call0_call0_call0_v77 : Ref sig .tc := ⟨.hbm, 173, rfl⟩
abbrev main_call0_call0_call0_v78 : Ref sig .tc := ⟨.hbm, 174, rfl⟩
abbrev main_call0_call0_call0_v79 : Ref sig .tc := ⟨.hbm, 175, rfl⟩
abbrev main_call0_call0_call0_v80 : Ref sig .tc := ⟨.hbm, 176, rfl⟩
abbrev main_call0_call0_call0_v81 : Ref sig .tc := ⟨.hbm, 177, rfl⟩
abbrev main_call0_call0_call0_c_20 : Ref sig .tc := ⟨.hbm, 178, rfl⟩
abbrev main_call0_call0_call0_v82 : Ref sig .tc := ⟨.hbm, 179, rfl⟩
abbrev main_call0_call0_call0_v83 : Ref sig .tc := ⟨.hbm, 180, rfl⟩
abbrev main_call0_call0_call0_c_21 : Ref sig .tc := ⟨.hbm, 181, rfl⟩
abbrev main_call0_call0_call0_v84 : Ref sig .tc := ⟨.hbm, 182, rfl⟩
abbrev main_call0_call0_call0_v85 : Ref sig .tc := ⟨.hbm, 183, rfl⟩
abbrev main_call0_call0_call0_v86 : Ref sig .tc := ⟨.hbm, 184, rfl⟩
abbrev main_call0_call0_call0_v87 : Ref sig .tc := ⟨.hbm, 185, rfl⟩
abbrev main_call0_call0_call0_v88 : Ref sig .tc := ⟨.hbm, 186, rfl⟩
abbrev main_call0_call0_call0_c_22 : Ref sig .tc := ⟨.hbm, 187, rfl⟩
abbrev main_call0_call0_call0_v89 : Ref sig .tc := ⟨.hbm, 188, rfl⟩
abbrev main_call0_call0_call0_v90 : Ref sig .tc := ⟨.hbm, 189, rfl⟩
abbrev main_call0_call0_call0_c_23 : Ref sig .tc := ⟨.hbm, 190, rfl⟩
abbrev main_call0_call0_call0_v91 : Ref sig .tc := ⟨.hbm, 191, rfl⟩
abbrev main_call0_call0_call0_v92 : Ref sig .tc := ⟨.hbm, 192, rfl⟩
abbrev main_call0_call0_call0_v93 : Ref sig .tc := ⟨.hbm, 193, rfl⟩
abbrev main_call0_call0_call0_v94 : Ref sig .tc := ⟨.hbm, 194, rfl⟩
abbrev main_call0_call0_call0_v95 : Ref sig .tc := ⟨.hbm, 195, rfl⟩
abbrev main_call0_call0_call0_c_24 : Ref sig .tc := ⟨.hbm, 196, rfl⟩
abbrev main_call0_call0_call0_v96 : Ref sig .tc := ⟨.hbm, 197, rfl⟩
abbrev main_call0_call0_call0_v97 : Ref sig .tc := ⟨.hbm, 198, rfl⟩
abbrev main_call0_call0_call0_c_25 : Ref sig .tc := ⟨.hbm, 199, rfl⟩
abbrev main_call0_call0_call0_v98 : Ref sig .tc := ⟨.hbm, 200, rfl⟩
abbrev main_call0_call0_call0_v99 : Ref sig .tc := ⟨.hbm, 201, rfl⟩
abbrev main_call0_call0_call0_v100 : Ref sig .tc := ⟨.hbm, 202, rfl⟩
abbrev main_call0_call0_call0_v101 : Ref sig .tc := ⟨.hbm, 203, rfl⟩
abbrev main_call0_call0_call0_v102 : Ref sig .tc := ⟨.hbm, 204, rfl⟩
abbrev main_call0_call0_call0_v103 : Ref sig .tc := ⟨.hbm, 205, rfl⟩
abbrev main_call0_call0_call0_v104 : Ref sig .tc := ⟨.hbm, 206, rfl⟩
abbrev main_call0_call0_call0_v105 : Ref sig .tc := ⟨.hbm, 207, rfl⟩
abbrev main_call0_call0_call0_c_26 : Ref sig .tc := ⟨.hbm, 208, rfl⟩
abbrev main_call0_call0_call0_v106 : Ref sig .tc := ⟨.hbm, 209, rfl⟩
abbrev main_call0_call0_call0_v107 : Ref sig .tc := ⟨.hbm, 210, rfl⟩
abbrev main_call0_call0_call0_v108 : Ref sig .tc := ⟨.hbm, 211, rfl⟩
abbrev main_call0_call0_call0_c_27 : Ref sig .tc := ⟨.hbm, 212, rfl⟩
abbrev main_call0_call0_call0_v109 : Ref sig .tc := ⟨.hbm, 213, rfl⟩
abbrev main_call0_call0_call0_v110 : Ref sig .tc := ⟨.hbm, 214, rfl⟩
abbrev main_call0_call0_call0_c_28 : Ref sig .tc := ⟨.hbm, 215, rfl⟩
abbrev main_call0_call0_call0_v111 : Ref sig .tc := ⟨.hbm, 216, rfl⟩
abbrev main_call0_call0_call0_v112 : Ref sig .tc := ⟨.hbm, 217, rfl⟩
abbrev main_call0_call0_call0_v113 : Ref sig .tc := ⟨.hbm, 218, rfl⟩
abbrev main_call0_call0_call0_v114 : Ref sig .tc := ⟨.hbm, 219, rfl⟩
abbrev main_call0_call0_call0_v115 : Ref sig .tc := ⟨.hbm, 220, rfl⟩
abbrev main_call0_call0_call0_c_29 : Ref sig .tc := ⟨.hbm, 221, rfl⟩
abbrev main_call0_call0_call0_v116 : Ref sig .tc := ⟨.hbm, 222, rfl⟩
abbrev main_call0_call0_call0_v117 : Ref sig .tc := ⟨.hbm, 223, rfl⟩
abbrev main_call0_call0_call0_c_30 : Ref sig .tc := ⟨.hbm, 224, rfl⟩
abbrev main_call0_call0_call0_v118 : Ref sig .tc := ⟨.hbm, 225, rfl⟩
abbrev main_call0_call0_call0_v119 : Ref sig .tc := ⟨.hbm, 226, rfl⟩
abbrev main_call0_call0_call0_v120 : Ref sig .tc := ⟨.hbm, 227, rfl⟩
abbrev main_call0_call0_call0_v121 : Ref sig .tc := ⟨.hbm, 228, rfl⟩
abbrev main_call0_call0_call0_v122 : Ref sig .tc := ⟨.hbm, 229, rfl⟩
abbrev main_call0_call0_call0_c_31 : Ref sig .tc := ⟨.hbm, 230, rfl⟩
abbrev main_call0_call0_call0_v123 : Ref sig .tc := ⟨.hbm, 231, rfl⟩
abbrev main_call0_call0_call0_v124 : Ref sig .tc := ⟨.hbm, 232, rfl⟩
abbrev main_call0_call0_call0_c_32 : Ref sig .tc := ⟨.hbm, 233, rfl⟩
abbrev main_call0_call0_call0_v125 : Ref sig .tc := ⟨.hbm, 234, rfl⟩
abbrev main_call0_call0_call0_v126 : Ref sig .tc := ⟨.hbm, 235, rfl⟩
abbrev main_call0_call0_call0_v127 : Ref sig .tc := ⟨.hbm, 236, rfl⟩
abbrev main_call0_call0_call0_v128 : Ref sig .tc := ⟨.hbm, 237, rfl⟩
abbrev main_call0_call0_call0_v129 : Ref sig .tc := ⟨.hbm, 238, rfl⟩
abbrev main_call0_call0_call0_c_33 : Ref sig .tc := ⟨.hbm, 239, rfl⟩
abbrev main_call0_call0_call0_v130 : Ref sig .tc := ⟨.hbm, 240, rfl⟩
abbrev main_call0_call0_call0_v131 : Ref sig .tc := ⟨.hbm, 241, rfl⟩
abbrev main_call0_call0_call0_c_34 : Ref sig .tc := ⟨.hbm, 242, rfl⟩
abbrev main_call0_call0_call0_v132 : Ref sig .tc := ⟨.hbm, 243, rfl⟩
abbrev main_call0_call0_call0_v133 : Ref sig .tc := ⟨.hbm, 244, rfl⟩
abbrev main_call0_call0_call0_v134 : Ref sig .tc := ⟨.hbm, 245, rfl⟩
abbrev main_call0_call0_call0_v135 : Ref sig .tc := ⟨.hbm, 246, rfl⟩
abbrev main_call0_call0_call0_v136 : Ref sig .tc := ⟨.hbm, 247, rfl⟩
abbrev main_call0_call0_call0_v137 : Ref sig .tc := ⟨.hbm, 248, rfl⟩
abbrev main_call0_call0_call0_v138 : Ref sig .tc := ⟨.hbm, 249, rfl⟩
abbrev main_call0_call0_call0_v139 : Ref sig .tc := ⟨.hbm, 250, rfl⟩
abbrev main_call0_call0_call0_c_35 : Ref sig .tc := ⟨.hbm, 251, rfl⟩
abbrev main_call0_call0_call0_v140 : Ref sig .tc := ⟨.hbm, 252, rfl⟩
abbrev main_call0_call0_call0_v141 : Ref sig .tc := ⟨.hbm, 253, rfl⟩
abbrev main_call0_call0_call0_v142 : Ref sig .tc := ⟨.hbm, 254, rfl⟩
abbrev main_call0_call0_call0_c_36 : Ref sig .tc := ⟨.hbm, 255, rfl⟩
abbrev main_call0_call0_call0_v143 : Ref sig .tc := ⟨.hbm, 256, rfl⟩
abbrev main_call0_call0_call0_v144 : Ref sig .tc := ⟨.hbm, 257, rfl⟩
abbrev main_call0_call0_call0_c_37 : Ref sig .tc := ⟨.hbm, 258, rfl⟩
abbrev main_call0_call0_call0_v145 : Ref sig .tc := ⟨.hbm, 259, rfl⟩
abbrev main_call0_call0_call0_v146 : Ref sig .tc := ⟨.hbm, 260, rfl⟩
abbrev main_call0_call0_call0_v147 : Ref sig .tc := ⟨.hbm, 261, rfl⟩
abbrev main_call0_call0_call0_v148 : Ref sig .tc := ⟨.hbm, 262, rfl⟩
abbrev main_call0_call0_call0_v149 : Ref sig .tc := ⟨.hbm, 263, rfl⟩
abbrev main_call0_call0_call0_c_38 : Ref sig .tc := ⟨.hbm, 264, rfl⟩
abbrev main_call0_call0_call0_v150 : Ref sig .tc := ⟨.hbm, 265, rfl⟩
abbrev main_call0_call0_call0_v151 : Ref sig .tc := ⟨.hbm, 266, rfl⟩
abbrev main_call0_call0_call0_c_39 : Ref sig .tc := ⟨.hbm, 267, rfl⟩
abbrev main_call0_call0_call0_v152 : Ref sig .tc := ⟨.hbm, 268, rfl⟩
abbrev main_call0_call0_call0_v153 : Ref sig .tc := ⟨.hbm, 269, rfl⟩
abbrev main_call0_call0_call0_v154 : Ref sig .tc := ⟨.hbm, 270, rfl⟩
abbrev main_call0_call0_call0_v155 : Ref sig .tc := ⟨.hbm, 271, rfl⟩
abbrev main_call0_call0_call0_v156 : Ref sig .tc := ⟨.hbm, 272, rfl⟩
abbrev main_call0_call0_call0_c_40 : Ref sig .tc := ⟨.hbm, 273, rfl⟩
abbrev main_call0_call0_call0_v157 : Ref sig .tc := ⟨.hbm, 274, rfl⟩
abbrev main_call0_call0_call0_v158 : Ref sig .tc := ⟨.hbm, 275, rfl⟩
abbrev main_call0_call0_call0_c_41 : Ref sig .tc := ⟨.hbm, 276, rfl⟩
abbrev main_call0_call0_call0_v159 : Ref sig .tc := ⟨.hbm, 277, rfl⟩
abbrev main_call0_call0_call0_v160 : Ref sig .tc := ⟨.hbm, 278, rfl⟩
abbrev main_call0_call0_call0_v161 : Ref sig .tc := ⟨.hbm, 279, rfl⟩
abbrev main_call0_call0_call0_v162 : Ref sig .tc := ⟨.hbm, 280, rfl⟩
abbrev main_call0_call0_call0_v163 : Ref sig .tc := ⟨.hbm, 281, rfl⟩
abbrev main_call0_call0_call0_c_42 : Ref sig .tc := ⟨.hbm, 282, rfl⟩
abbrev main_call0_call0_call0_v164 : Ref sig .tc := ⟨.hbm, 283, rfl⟩
abbrev main_call0_call0_call0_v165 : Ref sig .tc := ⟨.hbm, 284, rfl⟩
abbrev main_call0_call0_call0_c_43 : Ref sig .tc := ⟨.hbm, 285, rfl⟩
abbrev main_call0_call0_call0_v166 : Ref sig .tc := ⟨.hbm, 286, rfl⟩
abbrev main_call0_call0_call0_v167 : Ref sig .tc := ⟨.hbm, 287, rfl⟩
abbrev main_call0_call0_call0_v168 : Ref sig .tc := ⟨.hbm, 288, rfl⟩
abbrev main_call0_call0_call0_v169 : Ref sig .tc := ⟨.hbm, 289, rfl⟩
abbrev main_call0_call0_call0_v170 : Ref sig .tc := ⟨.hbm, 290, rfl⟩
abbrev main_call0_call0_v22_0 : Ref sig .tc := ⟨.hbm, 291, rfl⟩
abbrev main_call0_call0_call0_v172 : Ref sig .tc := ⟨.hbm, 292, rfl⟩
abbrev main_call0_call0_call0_v173 : Ref sig .tc := ⟨.hbm, 293, rfl⟩
abbrev main_call0_call0_call0_c_44 : Ref sig .tc := ⟨.hbm, 294, rfl⟩
abbrev main_call0_call0_call0_v174 : Ref sig .tc := ⟨.hbm, 295, rfl⟩
abbrev main_call0_call0_v22_1 : Ref sig .tc := ⟨.hbm, 296, rfl⟩
abbrev main_call0_call0_v23 : Ref sig .tc := ⟨.hbm, 297, rfl⟩
abbrev main_call0_call0_c_3 : Ref sig .tc := ⟨.hbm, 298, rfl⟩
abbrev main_call0_call0_v24 : Ref sig .tc := ⟨.hbm, 299, rfl⟩
abbrev main_call0_call0_v25 : Ref sig .tc := ⟨.hbm, 300, rfl⟩
abbrev main_call0_call0_c_4 : Ref sig .tc := ⟨.hbm, 301, rfl⟩
abbrev main_call0_call0_v26 : Ref sig .tc := ⟨.hbm, 302, rfl⟩
abbrev main_call0_call0_v27 : Ref sig .tc := ⟨.hbm, 303, rfl⟩
abbrev main_call0_call0_v28 : Ref sig .tc := ⟨.hbm, 304, rfl⟩
abbrev main_call0_call0_cst : Ref sig .tc := ⟨.hbm, 305, rfl⟩
abbrev main_call0_call0_v29 : Ref sig .tc := ⟨.hbm, 306, rfl⟩
abbrev main_call0_call0_v30 : Ref sig .tc := ⟨.hbm, 307, rfl⟩
abbrev main_call0_call0_v31 : Ref sig .tc := ⟨.hbm, 308, rfl⟩
abbrev main_call0_call0_v32 : Ref sig .tc := ⟨.hbm, 309, rfl⟩
abbrev main_call0_call0_v33 : Ref sig .tc := ⟨.hbm, 310, rfl⟩
abbrev main_call0_call0_v34 : Ref sig .tc := ⟨.hbm, 311, rfl⟩
abbrev main_call0_call0_v35 : Ref sig .tc := ⟨.hbm, 312, rfl⟩
abbrev main_call0_call0_v36 : Ref sig .tc := ⟨.hbm, 313, rfl⟩
abbrev main_call0_v0 : Ref sig .tc := ⟨.hbm, 314, rfl⟩
abbrev main_call0_v1 : Ref sig .tc := ⟨.hbm, 315, rfl⟩
abbrev main_call0_v2 : Ref sig .tc := ⟨.hbm, 316, rfl⟩
abbrev main_call0_v3 : Ref sig .tc := ⟨.hbm, 317, rfl⟩
abbrev main_v33 : Ref sig .tc := ⟨.hbm, 318, rfl⟩
abbrev main_v34 : Ref sig .tc := ⟨.hbm, 319, rfl⟩
abbrev main_call1_v0 : Ref sig .tc := ⟨.hbm, 320, rfl⟩
abbrev main_call1_cst : Ref sig .tc := ⟨.hbm, 321, rfl⟩
abbrev main_call1_c : Ref sig .tc := ⟨.hbm, 322, rfl⟩
abbrev main_call1_v1_0 : Ref sig .tc := ⟨.hbm, 323, rfl⟩
abbrev main_v35 : Ref sig .tc := ⟨.hbm, 324, rfl⟩
abbrev main_call2_v0 : Ref sig .tc := ⟨.hbm, 325, rfl⟩
abbrev main_call2_v1 : Ref sig .tc := ⟨.hbm, 326, rfl⟩
abbrev main_call2_v2 : Ref sig .tc := ⟨.hbm, 327, rfl⟩
abbrev main_call2_v3 : Ref sig .tc := ⟨.hbm, 328, rfl⟩
abbrev main_call2_v4 : Ref sig .tc := ⟨.hbm, 329, rfl⟩
abbrev main_v36 : Ref sig .tc := ⟨.hbm, 330, rfl⟩
abbrev main_v37 : Ref sig .tc := ⟨.hbm, 331, rfl⟩
abbrev main_v38 : Ref sig .tc := ⟨.hbm, 332, rfl⟩
abbrev main_v39 : Ref sig .tc := ⟨.hbm, 333, rfl⟩
abbrev main_v40 : Ref sig .tc := ⟨.hbm, 334, rfl⟩
abbrev main_v41 : Ref sig .tc := ⟨.hbm, 335, rfl⟩
abbrev main_cst_3 : Ref sig .tc := ⟨.hbm, 336, rfl⟩
abbrev main_v42 : Ref sig .tc := ⟨.hbm, 337, rfl⟩
abbrev main_v43 : Ref sig .tc := ⟨.hbm, 338, rfl⟩
abbrev main_v44 : Ref sig .tc := ⟨.hbm, 339, rfl⟩
abbrev main_v45 : Ref sig .tc := ⟨.hbm, 340, rfl⟩
abbrev main_v46 : Ref sig .tc := ⟨.hbm, 341, rfl⟩
abbrev main_call3_cst : Ref sig .tc := ⟨.hbm, 342, rfl⟩
abbrev main_call3_v0 : Ref sig .tc := ⟨.hbm, 343, rfl⟩
abbrev main_call3_cst_0 : Ref sig .tc := ⟨.hbm, 344, rfl⟩
abbrev main_call3_v1 : Ref sig .tc := ⟨.hbm, 345, rfl⟩
abbrev main_call3_v2 : Ref sig .tc := ⟨.hbm, 346, rfl⟩
abbrev main_call3_v3 : Ref sig .tc := ⟨.hbm, 347, rfl⟩
abbrev main_call3_v4 : Ref sig .tc := ⟨.hbm, 348, rfl⟩
abbrev main_call3_v5 : Ref sig .tc := ⟨.hbm, 349, rfl⟩
abbrev main_call3_v6 : Ref sig .tc := ⟨.hbm, 350, rfl⟩
abbrev main_call3_cst_1 : Ref sig .tc := ⟨.hbm, 351, rfl⟩
abbrev main_call3_v7 : Ref sig .tc := ⟨.hbm, 352, rfl⟩
abbrev main_call3_v8 : Ref sig .tc := ⟨.hbm, 353, rfl⟩
abbrev main_call3_v9 : Ref sig .tc := ⟨.hbm, 354, rfl⟩
abbrev main_call3_v10 : Ref sig .tc := ⟨.hbm, 355, rfl⟩
abbrev main_v47 : Ref sig .tc := ⟨.hbm, 356, rfl⟩

abbrev nD : Nat := 1
abbrev τ : Topo := Topo.v7x

variable {F : FTy → Type} [FloatOps F]
-- ==== Proof.Record.lean ====
/-
  A kernel region of a program whose outputs are known only up to what the unfilled parts of its staging buffers held: the
  record of such a region, entered from one valuation of the buffers and left at SOME valuation that agrees with it off
  the region's arrays and holds, at every array, contents the pipeline can leave there.
-/
module

public import Idealize.ShloMosaic.Lib.Pipeline.RegionsForgetLinks
public import Idealize.ShloMosaic.Lib.Pipeline.RegionArraysF
public import Idealize.ShloMosaic.Lib.Pipeline.DatRel

@[expose] public section

noncomputable section

namespace Cert.Record

open Idealize.ShloMosaic Idealize.ShloMosaic.TcCoe Idealize.ShloMosaic.Pipeline
open Idealize.SL Idealize.SL.RA Idealize.SL.Sem Idealize.SL.ProofMode
open Idealize.SL.BI (sProp bigSep bigSep_congr)
open scoped Idealize.SL.BI
open Idealize.SL.BI.BIBase Idealize.SL.BI.Laws

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]
variable {Λ₀ : Idealize.SL.Sem.Labels}

local notation "𝕄" => MT nD τ sig Ix Val Name U Lvl

/-- The arrays after `n` points of a relational run hold some contents the pipeline can leave there. -/
theorem arraysAt_some {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) (n : Nat) :
    ((dat.toRRel fgt Rl).arraysAt n : sProp 𝕄) ⊢ iprop(∃ A : (w : Fin cfg.W) → Buf Val ((cfg.win w).arr.view.loc (c.tc : Thread nD τ)),
      ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

section One

variable {P : Type} [Fintype P]
variable (pcs : P → PCfg sig Λ₀ Val) (a : (p : P) → (pcs p).Adm) (ι : Ix) (p : P)

/-- A valuation changed at a pipeline's arrays only: one exists for any contents of the arrays. -/
theorem exists_val (kit : PLaunchFacts (nD := nD) (τ := τ) pcs p) (c : Dev nD) (W : Valuation τ sig Val)
    (A : (w : Fin (pin pcs a p).W) → Buf Val (((pin pcs a p).win w).arr.view.loc (c.tc : Thread nD τ))) :
    ∃ W' : Valuation τ sig Val, (∀ w, A w = W' (Proc.devRef .tc (arrRef (pin pcs a p).spec w)))
      ∧ ∀ b, b ∉ arrRefs (τ := τ) (pcs p).spec → W' b = W b := by
  have h : ∀ b : DevRef τ sig, ∃ v : Buf Val ((c, b) : Loc nD τ sig),
      (∀ w, Proc.devRef .tc (arrRef (pin pcs a p).spec w) = b → HEq (A w) v) ∧ (b ∉ arrRefs (τ := τ) (pcs p).spec → v = W b) := by
    intro b
    by_cases hb : ∃ w, Proc.devRef .tc (arrRef (pin pcs a p).spec w) = b
    · obtain ⟨w, rfl⟩ := hb
      refine ⟨A w, fun w' e => ?_, fun hn => absurd (Finset.mem_map.mpr ⟨_, Finset.mem_image.mpr ⟨w, Finset.mem_univ w, rfl⟩, rfl⟩) hn⟩
      have : w' = w := kit.win.arr_inj (Proc.devRef_injective _ e)
      subst this
      rfl
    · exact ⟨W b, fun w e => absurd ⟨w, e⟩ hb, fun _ => rfl⟩
  choose v hv using h
  exact ⟨v, fun w => eq_of_heq ((hv _).1 w rfl), fun b hb => (hv b).2 hb⟩

variable (pdats : (p : P) → (c : Dev nD) → Dat τ Val Ix Name U Lvl (pin pcs a p) c)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The family read relationally: each pipeline's marked windows held to its predicate. -/
abbrev rels : (q : P) → (c : Dev nD) → RDat τ Val Ix Name U Lvl (pin pcs a q) c := fun q c => (pdats q c).toRRel (fg q) (Rl q c)

/-- A valuation the region can leave, entered from `W`: `W` off its arrays, and at each array some contents the pipeline leaves. -/
def Leaves (c : Dev nD) (W W' : Valuation τ sig Val) : Prop :=
  (∀ b, b ∉ arrRefs (τ := τ) (pcs p).spec → W' b = W b)
    ∧ ∀ w, (rels pcs a pdats fg Rl p c).ArrAt w (pin pcs a p).N (W' (Proc.devRef .tc (arrRef (pin pcs a p).spec w)))

/-- A reference no output window's array is on is left as entered. -/
theorem Leaves.keep {c : Dev nD} {W W' : Valuation τ sig Val} (h : Leaves pcs a p pdats fg Rl c W W')
    (hA : ∀ w, (pdats p c).A w = W (Proc.devRef .tc (arrRef (pin pcs a p).spec w)))
    (r : Ref sig .tc) (hr : ∀ w, arrRef (pin pcs a p).spec w = r → ((pin pcs a p).win w).isOut = false) : W' (Proc.devRef .tc r) = W (Proc.devRef .tc r) := by
  by_cases hb : ∃ w, arrRef (pin pcs a p).spec w = r
  · obtain ⟨w, rfl⟩ := hb
    have h2 := h.2 w
    rw [RDat.ArrAt_in _ w (hr w rfl)] at h2
    exact h2.trans (hA w)
  · refine h.1 _ fun hm => hb ?_
    obtain ⟨x, hx, e⟩ := Finset.mem_map.mp hm
    obtain ⟨w, -, rfl⟩ := Finset.mem_image.mp hx
    exact ⟨w, Proc.devRef_injective _ e⟩

/-- The record of the region: entered from the unscoped buffers at `W`, left with them at some valuation the region can leave. -/
def seg (defs₀ : Defs nD τ sig Val Λ₀) (𝒱₀ : Variants) (L : GSem nD τ sig → Finset Ix) (lv : GSem nD τ sig → Ix → Lvl)
    (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ)
    (hshare : ∀ c w, (pdats p c).share w = fullShare)
    (W : Dev nD → Valuation τ sig Val)
    (hA : ∀ c w, (pdats p c).A w = W c (Proc.devRef .tc (arrRef (pin pcs a p).spec w)))
    (hin : ∀ c : Dev nD, (scopedRest (pin pcs a p).spec c : sProp 𝕄) ⊢ (pdats p c).Φ 0)
    (hout : ∀ c : Dev nD, (pdats p c).Φ (Fin.last (pin pcs a p).N) ⊢ (scopedRest (pin pcs a p).spec c : sProp 𝕄)) :
    RDat.RegionSeg pcs a (rels pcs a pdats fg Rl) ι defs₀ 𝒱₀ L lv p where
  win := kit.to₀.win
  block_pos := kit.to₀.block_pos
  stage_whole := kit.to₀.stage_whole
  K := PEmpty
  osem := fun k => k.elim
  ho := OwnSemFacts.none _
  hbody c := (hbody c).toRRel
  hwaits c := (show _ ⊢ (emp : sProp 𝕄) from by iintro -; iempintro).trans
    (RDat.cellsWaits_of_owed_zero (pin pcs a) (rels pcs a pdats fg Rl) ι p c (howed c))
  pre c := iprop(StableHlo.held (c.tc : Thread nD τ) (ucRefs τ sig) (W c) ∗ ∃ Wd, owes (c : Thread nD τ) 0 Wd)
  post c := iprop(∃ W', ⌜Leaves pcs a p pdats fg Rl c (W c) W'⌝ ∗ StableHlo.held (c.tc : Thread nD τ) (ucRefs τ sig) W' ∗ ∃ Wd, owes (c : Thread nD τ) 0 Wd)
  X _ := iprop(emp)
  Y _ := iprop(emp)
  Z c := StableHlo.held (c.tc : Thread nD τ) (ucRefs τ sig \ arrRefs (pcs p).spec) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hA c),
      StableHlo.held_sub_split (c.tc : Thread nD τ) (arrRefs_sub_ucRefs _ kit.win.arr_unscoped) (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ (scopedRest (pin pcs a p).spec c : sProp 𝕄) from by
    iintro ⟨-, -, H⟩; iexact H).trans (hin c)
  hout c := (hout c).trans (by
    rw [ownSems0_none]
    iintro H
    isplitr; · iempintro
    isplitr; · iempintro
    iexact H)
  hexit c := by
    show iprop(((pdats p c).toRRel (fg p) (Rl p c)).arraysAt (pin pcs a p).N ∗ (pdats p c).owesAt ι (Fin.last (pin pcs a p).N) ∗ _ ∗ _) ⊢ _
    iintro ⟨Ha, HO, -, Hr⟩
    ihave Ha := (arraysAt_some (pdats p c) (fg p) (Rl p c) (pin pcs a p).N) $$ Ha
    icases Ha with ⟨%A, %hA, Ha⟩
    imodintro
    obtain ⟨W', h1, h2⟩ := exists_val pcs a p kit c (W c) A
    iexists W'
    isplitr
    · ipureintro
      exact ⟨h2, fun w => by rw [← h1 w]; exact hA w⟩
    rw [StableHlo.held_sub_split (c.tc : Thread nD τ) (arrRefs_sub_ucRefs _ kit.win.arr_unscoped) W',
      ← arrays_held pcs a pdats p kit c (hshare c) A W' h1,
      StableHlo.held_congr (c.tc : Thread nD τ) (S := ucRefs τ sig \ arrRefs (pcs p).spec) (V := W') (V' := W c) (fun b hb => h2 b (Finset.mem_sdiff.mp hb).2)]
    isplitl [Ha Hr]
    · isplitl [Ha]; · iexact Ha
      iexact Hr
    unfold Dat.owesAt owesWithin
    rw [howed c (Fin.last _)]
    icases HO with ⟨%Wd, -, HO⟩; iexists Wd; iexact HO

end One

end Cert.Record

end
-- ==== Proof.K.Algebra.lean ====
/-
  The user algebra of the run: one copy of the pipeline's per kernel region.
-/
module

public import proofs.«01_k».proof.Proof.Gen.Kernel
public import proofs.«01_k».proof.Proof.Gen.Kernel.Launch
public import Idealize.ShloMosaic.Lib.Pipeline.RegionsLoop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- One copy of the pipeline's algebra for each of the three regions. -/
abbrev UU : Type := IProdConst (Fin 3) (URounds (GSem nD τ sig) Unit) × URounds (GSem nD τ sig) Unit

end Cert.Kernel.Hand

end
-- ==== Proof.KI.Algebra.lean ====
/-
  The user algebra of the run: one copy of the pipeline's per kernel region.
-/
module

public import proofs.«01_k».proof.Proof.Gen.KernelIdeal
public import proofs.«01_k».proof.Proof.Gen.KernelIdeal.Launch
public import Idealize.ShloMosaic.Lib.Pipeline.RegionsLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- One copy of the pipeline's algebra for each of the three regions. -/
abbrev UU : Type := IProdConst (Fin 3) (URounds (GSem nD τ sig) Unit) × URounds (GSem nD τ sig) Unit

end Cert.KernelIdeal.Hand

end
-- ==== Proof.KI.Body0.lean ====
/-
  What one grid point of the first kernel (the masked sum of the three dot products) leaves in its buffers.
-/
module

public import proofs.«01_k».proof.Proof.KI.Algebra
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- Row block `j` of the mask, as the body loads it. -/
abbrev mrow0 (x7 : Vec F S3x32x256 .f32) : Vec F S1x32x256 .f32 := View.ld x7 (Rect.unit (s := S3x32x256) ![0, 0, 0] S1x32x256.size inb_S3x32x256_S1x32x256_0_0_0)
abbrev mrow1 (x7 : Vec F S3x32x256 .f32) : Vec F S1x32x256 .f32 := View.ld x7 (Rect.unit (s := S3x32x256) ![1, 0, 0] S1x32x256.size inb_S3x32x256_S1x32x256_1_0_0)
abbrev mrow2 (x7 : Vec F S3x32x256 .f32) : Vec F S1x32x256 .f32 := View.ld x7 (Rect.unit (s := S3x32x256) ![2, 0, 0] S1x32x256.size inb_S3x32x256_S1x32x256_2_0_0)
/-- Chunk `j` of the input block, as the body loads it. -/
abbrev xrow0 (x0 : Vec F S3x32x2048 .f32) : Vec F S1x32x2048 .f32 := View.ld x0 (Rect.unit (s := S3x32x2048) ![0, 0, 0] S1x32x2048.size inb_S3x32x2048_S1x32x2048_0_0_0)
abbrev xrow1 (x0 : Vec F S3x32x2048 .f32) : Vec F S1x32x2048 .f32 := View.ld x0 (Rect.unit (s := S3x32x2048) ![1, 0, 0] S1x32x2048.size inb_S3x32x2048_S1x32x2048_1_0_0)
abbrev xrow2 (x0 : Vec F S3x32x2048 .f32) : Vec F S1x32x2048 .f32 := View.ld x0 (Rect.unit (s := S3x32x2048) ![2, 0, 0] S1x32x2048.size inb_S3x32x2048_S1x32x2048_2_0_0)

/-- The accumulator's start: the masked biases. -/
def embInit (x4 x5 x6 : Vec F S1x256 .f32) (x7 : Vec F S3x32x256 .f32) : Vec F S32x256 .f32 :=
  k0_pay2 (mrow0 x7) x4 (mrow1 x7) x5 (mrow2 x7) x6

/-- One point's step: the accumulator plus the three masked dot products of the point's blocks. -/
def embStep (x0 : Vec F S3x32x2048 .f32) (x1 x2 x3 : Vec F S2048x256 .f32) (x7 : Vec F S3x32x256 .f32) (acc : Vec F S32x256 .f32) : Vec F S32x256 .f32 :=
  k0_pay1 (k0_pay3 acc (mrow0 x7) (xrow0 x0) x1 (mrow1 x7) (xrow1 x0) x2) (k0_pay4 (mrow2 x7) (xrow2 x0) x3)

/-- The body's first condition: the first point. -/
abbrev cond0_0 (i : grid0.Coords) : Prop := (Scalar.cmpi .ne (Scalar.extui (Scalar.cmpi .eq (BitVec.ofNat 32 (i 0).val) 0#32)) 0#32) = 1#1
theorem hcond0_0 (t : Fin cfg0.N) : cond0_0 (grid0.coords t) ↔ t.val % 8 = 0 := by
  have ht : t.val < 8 := Nat.lt_of_lt_of_eq t.isLt N_0
  have e0 : (grid0.coords t 0).val = t.val / 1 % 8 := Pipeline.Grid.coords_val t 0 (by decide) rfl
  simp only [cond0_0, e0]
  word_cmp

/-- The body's second condition: the last point. -/
abbrev cond0_1 (i : grid0.Coords) : Prop := k0_cond2 i = 1#1
theorem hcond0_1 (t : Fin cfg0.N) : cond0_1 (grid0.coords t) ↔ t.val % 8 = 7 := by
  have ht : t.val < 8 := Nat.lt_of_lt_of_eq t.isLt N_0
  have e0 : (grid0.coords t 0).val = t.val / 1 % 8 := Pipeline.Grid.coords_val t 0 (by decide) rfl
  simp only [cond0_1, k0_cond2, e0]
  word_cmp

set_option maxHeartbeats 1000000 in
/-- The first point: the accumulator starts at the masked biases and takes the point's step; the output is untouched. -/
theorem emb_first (c : Dev nD) (i : grid0.Coords) (arg1 : Memref sig .tc .vmem S3x32x2048 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S3x32x256 .f32) (harg8 : arg8.IsWhole) (arg9 : Memref sig .tc .vmem S32x256 .f32) (harg9 : arg9.IsWhole) (arg10 : Memref sig .tc .vmem S32x256 .f32) (harg10 : arg10.IsWhole) (hc0 : cond0_0 i) (hc1 : ¬cond0_1 i)
    (x0 : Vec F S3x32x2048 .f32) (x1 : Vec F S2048x256 .f32) (x2 : Vec F S2048x256 .f32) (x3 : Vec F S2048x256 .f32) (x4 : Vec F S1x256 .f32) (x5 : Vec F S1x256 .f32) (x6 : Vec F S1x256 .f32) (x7 : Vec F S3x32x256 .f32) (x8 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ x, owns (c : Thread nD τ) arg10 fullShare x)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (embStep x0 x1 x2 x3 x7 (embInit x4 x5 x6 x7))) -∗ K ⟨⟩))
      ⊢ wp frame (wpE (defs₀ (F := F)) Variants.none c none) E (cc0__embrace_body i arg1 harg1 arg2 harg2 arg3 harg3 arg4 harg4 arg5 harg5 arg6 harg6 arg7 harg7 arg8 harg8 arg9 harg9 arg10 harg10) K := by
  simp only [cc0__embrace_body_eq_skeleton]; unfold cc0__embrace_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%x9_, %f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact H9
  ipureintro
  refine (View.read_writes_eq_canon _ _ _ (View.cover_of_tiledL _ S32x256.size (by sl_kernel_rfl))).trans ?_
  frame_out
  first | done | rfl

set_option maxHeartbeats 1000000 in
/-- A middle point: the accumulator takes the point's step. -/
theorem emb_mid (c : Dev nD) (i : grid0.Coords) (arg1 : Memref sig .tc .vmem S3x32x2048 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S3x32x256 .f32) (harg8 : arg8.IsWhole) (arg9 : Memref sig .tc .vmem S32x256 .f32) (harg9 : arg9.IsWhole) (arg10 : Memref sig .tc .vmem S32x256 .f32) (harg10 : arg10.IsWhole) (hc0 : ¬cond0_0 i) (hc1 : ¬cond0_1 i)
    (x0 : Vec F S3x32x2048 .f32) (x1 : Vec F S2048x256 .f32) (x2 : Vec F S2048x256 .f32) (x3 : Vec F S2048x256 .f32) (x4 : Vec F S1x256 .f32) (x5 : Vec F S1x256 .f32) (x6 : Vec F S1x256 .f32) (x7 : Vec F S3x32x256 .f32) (x8 x9 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (embStep x0 x1 x2 x3 x7 x9)) -∗ K ⟨⟩))
      ⊢ wp frame (wpE (defs₀ (F := F)) Variants.none c none) E (cc0__embrace_body i arg1 harg1 arg2 harg2 arg3 harg3 arg4 harg4 arg5 harg5 arg6 harg6 arg7 harg7 arg8 harg8 arg9 harg9 arg10 harg10) K := by
  simp only [cc0__embrace_body_eq_skeleton]; unfold cc0__embrace_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact H9
  ipureintro
  refine (View.read_writes_eq_canon _ _ _ (View.cover_of_tiledL _ S32x256.size (by sl_kernel_rfl))).trans ?_
  frame_out
  first | done | rfl

set_option maxHeartbeats 1000000 in
/-- The last point: the accumulator takes the point's step and is copied to the output. -/
theorem emb_last (c : Dev nD) (i : grid0.Coords) (arg1 : Memref sig .tc .vmem S3x32x2048 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S3x32x256 .f32) (harg8 : arg8.IsWhole) (arg9 : Memref sig .tc .vmem S32x256 .f32) (harg9 : arg9.IsWhole) (arg10 : Memref sig .tc .vmem S32x256 .f32) (harg10 : arg10.IsWhole) (hc0 : ¬cond0_0 i) (hc1 : cond0_1 i)
    (x0 : Vec F S3x32x2048 .f32) (x1 : Vec F S2048x256 .f32) (x2 : Vec F S2048x256 .f32) (x3 : Vec F S2048x256 .f32) (x4 : Vec F S1x256 .f32) (x5 : Vec F S1x256 .f32) (x6 : Vec F S1x256 .f32) (x7 : Vec F S3x32x256 .f32) (x9 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ x, owns (c : Thread nD τ) arg9 fullShare x) ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (embStep x0 x1 x2 x3 x7 x9) ∗ owns (c : Thread nD τ) arg10 fullShare (embStep x0 x1 x2 x3 x7 x9)) -∗ K ⟨⟩))
      ⊢ wp frame (wpE (defs₀ (F := F)) Variants.none c none) E (cc0__embrace_body i arg1 harg1 arg2 harg2 arg3 harg3 arg4 harg4 arg5 harg5 arg6 harg6 arg7 harg7 arg8 harg8 arg9 harg9 arg10 harg10) K := by
  simp only [cc0__embrace_body_eq_skeleton]; unfold cc0__embrace_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%x8_, %f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (View.read_writes_eq_canon _ _ _ (View.cover_of_tiledL _ S32x256.size (by sl_kernel_rfl))).trans ?_
    frame_out
    first | done | rfl
  iexists _; isplitr
  swap; · iexact H9
  ipureintro
  refine (View.read_writes_eq_canon _ _ _ (View.cover_of_tiledL _ S32x256.size (by sl_kernel_rfl))).trans ?_
  frame_out
  first | done | rfl

end Cert.KernelIdeal.Hand

end
-- ==== Proof.KI.Region0.lean ====
/-
  The first region: its data, its invariant (the accumulator after each point) and its body obligation.
-/
module

public import proofs.«01_k».proof.Proof.KI.Body0
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (X : Dev nD → Valuation τ sig (Elt F))

/-- Window `w`'s block at point `t`, read off the array as the region finds it. -/
def iblk0 (c : Dev nD) (w : Fin 9) (t : Fin cfg0.N) : ((cfg0.win w).xblock (cfg0.grid.coords t)).Idx → Elt F (cfg0.win w).elt :=
  ((cfg0.win w).blk t).view.read (Elt F) (X c (Proc.devRef .tc (Pipeline.arrRef spec0 w)))

/-- Point `n` of the grid, counted round. -/
def pt0 (n : ℕ) : Fin cfg0.N := ⟨n % 8, lt_of_lt_of_eq (Nat.mod_lt _ (by decide)) N_0.symm⟩
theorem pt0_val (t : Fin cfg0.N) : pt0 t.val = t := Fin.ext (Nat.mod_eq_of_lt (lt_of_lt_of_eq t.isLt N_0))

abbrev ms0_0 (t : Fin cfg0.N) : Memref sig .tc .vmem S3x32x2048 .f32 := win0_0.stage (cfg0.slots t 0)
abbrev ms0_1 (t : Fin cfg0.N) : Memref sig .tc .vmem S2048x256 .f32 := win0_1.stage (cfg0.slots t 1)
abbrev ms0_2 (t : Fin cfg0.N) : Memref sig .tc .vmem S2048x256 .f32 := win0_2.stage (cfg0.slots t 2)
abbrev ms0_3 (t : Fin cfg0.N) : Memref sig .tc .vmem S2048x256 .f32 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S3x32x256 .f32 := win0_7.stage (cfg0.slots t 7)
abbrev ms0_8 (t : Fin cfg0.N) : Memref sig .tc .vmem S32x256 .f32 := win0_8.stage (cfg0.slots t 8)
/-- Input window 0's block at point `t`. -/
abbrev blk0_0 (c : Dev nD) (t : Fin cfg0.N) : Vec F S3x32x2048 .f32 := iblk0 X c 0 t
/-- Input window 1's block at point `t`. -/
abbrev blk0_1 (c : Dev nD) (t : Fin cfg0.N) : Vec F S2048x256 .f32 := iblk0 X c 1 t
/-- Input window 2's block at point `t`. -/
abbrev blk0_2 (c : Dev nD) (t : Fin cfg0.N) : Vec F S2048x256 .f32 := iblk0 X c 2 t
/-- Input window 3's block at point `t`. -/
abbrev blk0_3 (c : Dev nD) (t : Fin cfg0.N) : Vec F S2048x256 .f32 := iblk0 X c 3 t
/-- Input window 4's block at point `t`. -/
abbrev blk0_4 (c : Dev nD) (t : Fin cfg0.N) : Vec F S1x256 .f32 := iblk0 X c 4 t
/-- Input window 5's block at point `t`. -/
abbrev blk0_5 (c : Dev nD) (t : Fin cfg0.N) : Vec F S1x256 .f32 := iblk0 X c 5 t
/-- Input window 6's block at point `t`. -/
abbrev blk0_6 (c : Dev nD) (t : Fin cfg0.N) : Vec F S1x256 .f32 := iblk0 X c 6 t
/-- Input window 7's block at point `t`. -/
abbrev blk0_7 (c : Dev nD) (t : Fin cfg0.N) : Vec F S3x32x256 .f32 := iblk0 X c 7 t

/-- The accumulator after point `n`. -/
def acc0 (c : Dev nD) : ℕ → Vec F S32x256 .f32
  | 0 => embStep (blk0_0 X c (pt0 0)) (blk0_1 X c (pt0 0)) (blk0_2 X c (pt0 0)) (blk0_3 X c (pt0 0)) (blk0_7 X c (pt0 0))
      (embInit (blk0_4 X c (pt0 0)) (blk0_5 X c (pt0 0)) (blk0_6 X c (pt0 0)) (blk0_7 X c (pt0 0)))
  | n + 1 => embStep (blk0_0 X c (pt0 (n + 1))) (blk0_1 X c (pt0 (n + 1))) (blk0_2 X c (pt0 (n + 1))) (blk0_3 X c (pt0 (n + 1))) (blk0_7 X c (pt0 (n + 1))) (acc0 c n)

theorem acc0_first (c : Dev nD) (t : Fin cfg0.N) (h : t.val = 0) : acc0 X c t.val = embStep (blk0_0 X c t) (blk0_1 X c t) (blk0_2 X c t) (blk0_3 X c t) (blk0_7 X c t)
      (embInit (blk0_4 X c t) (blk0_5 X c t) (blk0_6 X c t) (blk0_7 X c t)) := by
  have e : pt0 0 = t := by rw [← h, pt0_val]
  rw [h, acc0, e]

theorem acc0_next (c : Dev nD) (t : Fin cfg0.N) (h : t.val ≠ 0) : acc0 X c t.val = embStep (blk0_0 X c t) (blk0_1 X c t) (blk0_2 X c t) (blk0_3 X c t) (blk0_7 X c t) (acc0 X c (t.val - 1)) := by
  obtain ⟨n, hn⟩ : ∃ n, t.val = n + 1 := Nat.exists_eq_succ_of_ne_zero h
  have e : pt0 (n + 1) = t := by rw [← hn, pt0_val]
  rw [hn, acc0, e, Nat.add_sub_cancel]

abbrev scM0 : Memref sig .tc .vmem S32x256 .f32 := Memref.whole cc0_scratch0

/-- The scoped buffers the region does not stage, with the carried ones taken out. -/
theorem scoped_split0 (c : Dev nD) : (Pipeline.scopedRest (Ix := Unit) (Name := ℕ) (U := UU) (Lvl := ℕ) (Val := Elt F) spec0 c : sProp 𝕄)
    ⊢ iprop((∃ d, owns (c : Thread nD τ) (Memref.whole cc0_scratch0 : Memref sig .tc .vmem S32x256 .f32) fullShare d) ∗ (((∃ d, owns (c : Thread nD τ) (Memref.whole cc0_scratch0 : Memref sig .tc .vmem S32x256 .f32) fullShare d)) -∗ Pipeline.scopedRest (Ix := Unit) (Name := ℕ) (U := UU) (Lvl := ℕ) (Val := Elt F) spec0 c)) := by
  rw [scopedRest0_eq]
  simp only [owns_whole]
  iintro ⟨H0, H1, H2, H3, H4, H5, H6, H7, H8, H9, H10, H11, H12, H13, H14, H15⟩
  isplitl [H0]; · iexact H0
  iintro G0
  isplitl [G0]; · iexact G0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The invariant before position `n`: the accumulator at what the point before left. -/
def Phi0 (c : Dev nD) : ℕ → sProp 𝕄
  | 0 => Pipeline.scopedRest (Ix := Unit) (Name := ℕ) (U := UU) (Lvl := ℕ) (Val := Elt F) spec0 c
  | n + 1 => iprop(owns (c : Thread nD τ) scM0 fullShare (acc0 X c n) ∗ ((∃ d, owns (c : Thread nD τ) scM0 fullShare d) -∗ Pipeline.scopedRest (Ix := Unit) (Name := ℕ) (U := UU) (Lvl := ℕ) (Val := Elt F) spec0 c))

theorem Phi0_succ (c : Dev nD) (n : ℕ) : Phi0 X c (n + 1) = iprop(owns (c : Thread nD τ) scM0 fullShare (acc0 X c n) ∗ ((∃ d, owns (c : Thread nD τ) scM0 fullShare d) -∗ Pipeline.scopedRest (Ix := Unit) (Name := ℕ) (U := UU) (Lvl := ℕ) (Val := Elt F) spec0 c)) := rfl

theorem Phi0_pos (c : Dev nD) (n : ℕ) (h : n ≠ 0) : Phi0 X c n = iprop(owns (c : Thread nD τ) scM0 fullShare (acc0 X c (n - 1)) ∗ ((∃ d, owns (c : Thread nD τ) scM0 fullShare d) -∗ Pipeline.scopedRest (Ix := Unit) (Name := ℕ) (U := UU) (Lvl := ℕ) (Val := Elt F) spec0 c)) := by
  cases n with
  | zero => exact absurd rfl h
  | succ n => rfl

/-- The region's data: the arrays as found, each input's buffer left at its block, the outputs held by relation. -/
def dat0 (c : Dev nD) : Dat τ (Elt F) Unit ℕ (UU) ℕ cfg0 c where
  A w := X c (Proc.devRef .tc (Pipeline.arrRef spec0 w))
  after w t := match w with
    | ⟨0, _⟩ => iblk0 X c 0 t
    | ⟨1, _⟩ => iblk0 X c 1 t
    | ⟨2, _⟩ => iblk0 X c 2 t
    | ⟨3, _⟩ => iblk0 X c 3 t
    | ⟨4, _⟩ => iblk0 X c 4 t
    | ⟨5, _⟩ => iblk0 X c 5 t
    | ⟨6, _⟩ => iblk0 X c 6 t
    | ⟨7, _⟩ => iblk0 X c 7 t
    | ⟨8, _⟩ => Pipeline.Dat.unnamed (cfg := cfg0) 8 t
  Φ t := Phi0 X c t.val
  q _ := fullShare
  owed _ := 0

theorem A_eq0 (c : Dev nD) (w : Fin cfg0.W) : (dat0 X c).A w = X c (Proc.devRef .tc (Pipeline.arrRef spec0 w)) := by
  dsimp only [dat0]
theorem after0_0 (c : Dev nD) (t : Fin cfg0.N) : (dat0 X c).after 0 t = blk0_0 X c t := by dsimp only [dat0]
theorem before0_0 (c : Dev nD) (t : Fin cfg0.N) (d) : (dat0 X c).before 0 t d = blk0_0 X c t :=
  ((dat0 X c).before_in_eq_fetched 0 rfl (fun _ => rfl) (fun _ _ _ => rfl) (fun t => by rw [after0_0]; unfold Dat.blockOf blk0_0 iblk0; rw [A_eq0]; try rfl) t d).trans
    (by unfold Dat.fetched Dat.blockOf blk0_0 iblk0; rw [A_eq0]; try rfl)
theorem after0_1 (c : Dev nD) (t : Fin cfg0.N) : (dat0 X c).after 1 t = blk0_1 X c t := by dsimp only [dat0]
theorem before0_1 (c : Dev nD) (t : Fin cfg0.N) (d) : (dat0 X c).before 1 t d = blk0_1 X c t :=
  ((dat0 X c).before_in_eq_fetched 1 rfl (fun _ => rfl) (fun _ _ _ => rfl) (fun t => by rw [after0_1]; unfold Dat.blockOf blk0_1 iblk0; rw [A_eq0]; try rfl) t d).trans
    (by unfold Dat.fetched Dat.blockOf blk0_1 iblk0; rw [A_eq0]; try rfl)
theorem after0_2 (c : Dev nD) (t : Fin cfg0.N) : (dat0 X c).after 2 t = blk0_2 X c t := by dsimp only [dat0]
theorem before0_2 (c : Dev nD) (t : Fin cfg0.N) (d) : (dat0 X c).before 2 t d = blk0_2 X c t :=
  ((dat0 X c).before_in_eq_fetched 2 rfl (fun _ => rfl) (fun _ _ _ => rfl) (fun t => by rw [after0_2]; unfold Dat.blockOf blk0_2 iblk0; rw [A_eq0]; try rfl) t d).trans
    (by unfold Dat.fetched Dat.blockOf blk0_2 iblk0; rw [A_eq0]; try rfl)
theorem after0_3 (c : Dev nD) (t : Fin cfg0.N) : (dat0 X c).after 3 t = blk0_3 X c t := by dsimp only [dat0]
theorem before0_3 (c : Dev nD) (t : Fin cfg0.N) (d) : (dat0 X c).before 3 t d = blk0_3 X c t :=
  ((dat0 X c).before_in_eq_fetched 3 rfl (fun _ => rfl) (fun _ _ _ => rfl) (fun t => by rw [after0_3]; unfold Dat.blockOf blk0_3 iblk0; rw [A_eq0]; try rfl) t d).trans
    (by unfold Dat.fetched Dat.blockOf blk0_3 iblk0; rw [A_eq0]; try rfl)
theorem after0_4 (c : Dev nD) (t : Fin cfg0.N) : (dat0 X c).after 4 t = blk0_4 X c t := by dsimp only [dat0]
theorem before0_4 (c : Dev nD) (t : Fin cfg0.N) (d) : (dat0 X c).before 4 t d = blk0_4 X c t :=
  ((dat0 X c).before_in_eq_fetched 4 rfl (fun _ => rfl) (fun _ _ _ => rfl) (fun t => by rw [after0_4]; unfold Dat.blockOf blk0_4 iblk0; rw [A_eq0]; try rfl) t d).trans
    (by unfold Dat.fetched Dat.blockOf blk0_4 iblk0; rw [A_eq0]; try rfl)
theorem after0_5 (c : Dev nD) (t : Fin cfg0.N) : (dat0 X c).after 5 t = blk0_5 X c t := by dsimp only [dat0]
theorem before0_5 (c : Dev nD) (t : Fin cfg0.N) (d) : (dat0 X c).before 5 t d = blk0_5 X c t :=
  ((dat0 X c).before_in_eq_fetched 5 rfl (fun _ => rfl) (fun _ _ _ => rfl) (fun t => by rw [after0_5]; unfold Dat.blockOf blk0_5 iblk0; rw [A_eq0]; try rfl) t d).trans
    (by unfold Dat.fetched Dat.blockOf blk0_5 iblk0; rw [A_eq0]; try rfl)
theorem after0_6 (c : Dev nD) (t : Fin cfg0.N) : (dat0 X c).after 6 t = blk0_6 X c t := by dsimp only [dat0]
theorem before0_6 (c : Dev nD) (t : Fin cfg0.N) (d) : (dat0 X c).before 6 t d = blk0_6 X c t :=
  ((dat0 X c).before_in_eq_fetched 6 rfl (fun _ => rfl) (fun _ _ _ => rfl) (fun t => by rw [after0_6]; unfold Dat.blockOf blk0_6 iblk0; rw [A_eq0]; try rfl) t d).trans
    (by unfold Dat.fetched Dat.blockOf blk0_6 iblk0; rw [A_eq0]; try rfl)
theorem after0_7 (c : Dev nD) (t : Fin cfg0.N) : (dat0 X c).after 7 t = blk0_7 X c t := by dsimp only [dat0]
theorem before0_7 (c : Dev nD) (t : Fin cfg0.N) (d) : (dat0 X c).before 7 t d = blk0_7 X c t :=
  ((dat0 X c).before_in_eq_fetched 7 rfl (fun _ => rfl) (fun _ _ _ => rfl) (fun t => by rw [after0_7]; unfold Dat.blockOf blk0_7 iblk0; rw [A_eq0]; try rfl) t d).trans
    (by unfold Dat.fetched Dat.blockOf blk0_7 iblk0; rw [A_eq0]; try rfl)

/-- Which windows are held by relation. -/
def mk0 : Fin cfg0.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true

/-- What each output's buffer is left at. -/
def Rl0 (c : Dev nD) : (w : Fin cfg0.W) → Fin cfg0.N → ((cfg0.win w).block.Idx → Elt F (cfg0.win w).elt) → Prop := fun w t => match w with
    | ⟨0, _⟩ => fun Y => True
    | ⟨1, _⟩ => fun Y => True
    | ⟨2, _⟩ => fun Y => True
    | ⟨3, _⟩ => fun Y => True
    | ⟨4, _⟩ => fun Y => True
    | ⟨5, _⟩ => fun Y => True
    | ⟨6, _⟩ => fun Y => True
    | ⟨7, _⟩ => fun Y => True
    | ⟨8, _⟩ => fun Y => (t.val = 7 → Y = acc0 X c 7)

/-- What the body is called with at point `t`, the windows one by one. -/
def bodyPre0 (c : Dev nD) (t : Fin cfg0.N) : sProp 𝕄 :=
  iprop((dat0 X c).Φ t.castSucc ∗ (dat0 X c).owesAt () t.castSucc
    ∗ (∃ d, owns (c : Thread nD τ) (ms0_0 t) fullShare ((dat0 X c).before 0 t d))
    ∗ (∃ d, owns (c : Thread nD τ) (ms0_1 t) fullShare ((dat0 X c).before 1 t d))
    ∗ (∃ d, owns (c : Thread nD τ) (ms0_2 t) fullShare ((dat0 X c).before 2 t d))
    ∗ (∃ d, owns (c : Thread nD τ) (ms0_3 t) fullShare ((dat0 X c).before 3 t d))
    ∗ (∃ d, owns (c : Thread nD τ) (ms0_4 t) fullShare ((dat0 X c).before 4 t d))
    ∗ (∃ d, owns (c : Thread nD τ) (ms0_5 t) fullShare ((dat0 X c).before 5 t d))
    ∗ (∃ d, owns (c : Thread nD τ) (ms0_6 t) fullShare ((dat0 X c).before 6 t d))
    ∗ (∃ d, owns (c : Thread nD τ) (ms0_7 t) fullShare ((dat0 X c).before 7 t d))
    ∗ (∃ Y, ⌜((dat0 X c).toRRel mk0 (Rl0 X c)).Finds 8 t Y⌝ ∗ owns (c : Thread nD τ) (ms0_8 t) fullShare Y))

/-- What it returns. -/
def bodyPost0 (c : Dev nD) (t : Fin cfg0.N) : sProp 𝕄 :=
  iprop((dat0 X c).Φ t.succ ∗ (dat0 X c).owesAt () t.succ
    ∗ owns (c : Thread nD τ) (ms0_0 t) fullShare ((dat0 X c).after 0 t)
    ∗ owns (c : Thread nD τ) (ms0_1 t) fullShare ((dat0 X c).after 1 t)
    ∗ owns (c : Thread nD τ) (ms0_2 t) fullShare ((dat0 X c).after 2 t)
    ∗ owns (c : Thread nD τ) (ms0_3 t) fullShare ((dat0 X c).after 3 t)
    ∗ owns (c : Thread nD τ) (ms0_4 t) fullShare ((dat0 X c).after 4 t)
    ∗ owns (c : Thread nD τ) (ms0_5 t) fullShare ((dat0 X c).after 5 t)
    ∗ owns (c : Thread nD τ) (ms0_6 t) fullShare ((dat0 X c).after 6 t)
    ∗ owns (c : Thread nD τ) (ms0_7 t) fullShare ((dat0 X c).after 7 t)
    ∗ (∃ Y, ⌜Rl0 X c 8 t Y⌝ ∗ owns (c : Thread nD τ) (ms0_8 t) fullShare Y))

set_option maxHeartbeats 4000000 in
/-- The body at any point. -/
theorem sound_body0 (c : Dev nD) (t : Fin cfg0.N) :
    bodyPre0 X c t ⊢ wp frame (wpE (defs₀ (F := F)) Variants.none c none) Set.univ (bodyAt0 t) (fun _ => bodyPost0 X c t) := by
  unfold bodyPre0 bodyPost0 bodyAt0
  simp only [before0_0, before0_1, before0_2, before0_3, before0_4, before0_5, before0_6, before0_7, after0_0, after0_1, after0_2, after0_3, after0_4, after0_5, after0_6, after0_7]
  rw [show (dat0 X c).owesAt () t.succ = (dat0 X c).owesAt () t.castSucc from rfl]
  rw [show (dat0 X c).Φ t.succ = Phi0 X c (t.val + 1) from rfl, show (dat0 X c).Φ t.castSucc = Phi0 X c t.val from rfl]
  have hN : t.val < 8 := lt_of_lt_of_eq t.isLt N_0
  by_cases h0 : t.val = 0
  · have h1 : ¬t.val = 7 := by omega
    have hacc := acc0_first X c t h0
    rw [show Phi0 X c t.val = Pipeline.scopedRest (Ix := Unit) (Name := ℕ) (U := UU) (Lvl := ℕ) (Val := Elt F) spec0 c from by rw [h0]; rfl]
    rw [Phi0_succ, hacc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩⟩
    ihave HΦ' := (scoped_split0 (F := F) c) $$ HΦ
    icases HΦ' with ⟨HS, Hw⟩
    iapply (emb_first c (cfg0.grid.coords t) _ _ _ _ _ _ _ _ _ _ _ _ _ _ _ _ _ _ _ _ ((hcond0_0 t).mpr (by omega)) (fun h => h1 (by have := (hcond0_1 t).mp h; omega)) (blk0_0 X c t) (blk0_1 X c t) (blk0_2 X c t) (blk0_3 X c t) (blk0_4 X c t) (blk0_5 X c t) (blk0_6 X c t) (blk0_7 X c t) Y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; isplitr; swap; · iexact H8
    ipureintro; intro h7; exact absurd h7 h1
  have hacc := acc0_next X c t h0
  rw [Phi0_pos X c t.val h0]
  by_cases h1 : t.val = 7
  · rw [Phi0_succ, hacc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩⟩
    icases HΦ with ⟨HS, Hw⟩
    iapply (emb_last c (cfg0.grid.coords t) _ _ _ _ _ _ _ _ _ _ _ _ _ _ _ _ _ _ _ _ (fun h => h0 (by have := (hcond0_0 t).mp h; omega)) ((hcond0_1 t).mpr (by omega)) (blk0_0 X c t) (blk0_1 X c t) (blk0_2 X c t) (blk0_3 X c t) (blk0_4 X c t) (blk0_5 X c t) (blk0_6 X c t) (blk0_7 X c t) (acc0 X c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; isplitr; swap; · iexact H8
    ipureintro; intro _; rw [← hacc, h1]
  · rw [Phi0_succ, hacc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩⟩
    icases HΦ with ⟨HS, Hw⟩
    iapply (emb_mid c (cfg0.grid.coords t) _ _ _ _ _ _ _ _ _ _ _ _ _ _ _ _ _ _ _ _ (fun h => h0 (by have := (hcond0_0 t).mp h; omega)) (fun h => h1 (by have := (hcond0_1 t).mp h; omega)) (blk0_0 X c t) (blk0_1 X c t) (blk0_2 X c t) (blk0_3 X c t) (blk0_4 X c t) (blk0_5 X c t) (blk0_6 X c t) (blk0_7 X c t) Y8 (acc0 X c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; isplitr; swap; · iexact H8
    ipureintro; intro h7; exact absurd h7 h1

/-- The body table's row at point `t`'s slots. -/
theorem defs₀_row0 (t : Fin cfg0.N) :
    defs₀ (F := F) .tc cfg0.body (cfg0.bodyArgs t (cfg0.slots t)) = bodyAt0 t := by
  unfold defs₀; rw [Defs.onTc_tc]

/-- The body obligation of the region, the outputs by relation. -/
theorem body_obligation0 (c : Dev nD) : Pipeline.BodyObligationRel (dat0 X c) (defs₀ (F := F)) Variants.none () Set.univ mk0 (Rl0 X c) := fun t => by
  rw [bigSep_W0, bigSep_W0, defs₀_row0]
  exact triple_restated (sound_body0 X c t) rfl .rfl fun _ => .rfl

/-- The launch's scoped buffers are the invariant before the first point, -/
theorem hin0 (c : Dev nD) : (Pipeline.scopedRest (Ix := Unit) (Name := ℕ) (U := UU) (Lvl := ℕ) (Val := Elt F) spec0 c : sProp 𝕄) ⊢ (dat0 X c).Φ 0 := by
  rw [show (dat0 X c).Φ 0 = Phi0 X c 0 from rfl]; exact .rfl

/-- and the invariant after the last point gives them back. -/
theorem hout0 (c : Dev nD) : (dat0 X c).Φ (Fin.last cfg0.N) ⊢ (Pipeline.scopedRest (Ix := Unit) (Name := ℕ) (U := UU) (Lvl := ℕ) (Val := Elt F) spec0 c : sProp 𝕄) := by
  rw [show (dat0 X c).Φ (Fin.last cfg0.N) = Phi0 X c cfg0.N from rfl, Phi0_pos X c _ (by rw [show cfg0.N = 8 from N_0]; decide)]
  iintro ⟨HS, Hw⟩
  iapply Hw; iexists _; iexact HS

end Cert.KernelIdeal.Hand

end
-- ==== Proof.KI.Body1.lean ====
/-
  What one grid point of the second kernel (the logits and their running maximum and sum) leaves in its buffers.
-/
module

public import proofs.«01_k».proof.Proof.KI.Algebra
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- The body's conditions: the first point, the later points, the last point. -/
abbrev cond1_0 (i : grid1.Coords) : Prop := (Scalar.cmpi .ne (Scalar.extui (Scalar.cmpi .eq (BitVec.ofNat 32 (i 0).val) 0#32)) 0#32) = 1#1
abbrev cond1_1 (i : grid1.Coords) : Prop := (Scalar.cmpi .ne (Scalar.extui (Scalar.cmpi .sgt (BitVec.ofNat 32 (i 0).val) 0#32)) 0#32) = 1#1
abbrev cond1_2 (i : grid1.Coords) : Prop := k1_cond3 i = 1#1
theorem hcond1_0 (t : Fin cfg1.N) : cond1_0 (grid1.coords t) ↔ t.val % 13 = 0 := by
  have ht : t.val < 13 := Nat.lt_of_lt_of_eq t.isLt N_1
  have e0 : (grid1.coords t 0).val = t.val / 1 % 13 := Pipeline.Grid.coords_val t 0 (by decide) rfl
  simp only [cond1_0, e0]
  word_cmp
theorem hcond1_1 (t : Fin cfg1.N) : cond1_1 (grid1.coords t) ↔ ¬ t.val % 13 = 0 := by
  have ht : t.val < 13 := Nat.lt_of_lt_of_eq t.isLt N_1
  have e0 : (grid1.coords t 0).val = t.val / 1 % 13 := Pipeline.Grid.coords_val t 0 (by decide) rfl
  simp only [cond1_1, e0]
  word_cmp
theorem hcond1_2 (t : Fin cfg1.N) : cond1_2 (grid1.coords t) ↔ t.val % 13 = 12 := by
  have ht : t.val < 13 := Nat.lt_of_lt_of_eq t.isLt N_1
  have e0 : (grid1.coords t 0).val = t.val / 1 % 13 := Pipeline.Grid.coords_val t 0 (by decide) rfl
  simp only [cond1_2, k1_cond3, e0]
  word_cmp

set_option maxHeartbeats 1000000 in
/-- The first point: the logits are stored, the running maximum and sum start at the tile's. -/
theorem logits_first (c : Dev nD) (i : grid1.Coords) (arg1 : Memref sig .tc .vmem S32x256 .f32) (harg1 : arg1.IsWhole) (arg2 : Memref sig .tc .vmem S256x8192 .f32) (harg2 : arg2.IsWhole) (arg3 : Memref sig .tc .vmem S1x8192 .f32) (harg3 : arg3.IsWhole) (arg4 : Memref sig .tc .vmem S32x8192 .f32) (harg4 : arg4.IsWhole) (arg5 : Memref sig .tc .vmem S32x128 .f32) (harg5 : arg5.IsWhole) (arg6 : Memref sig .tc .vmem S32x1 .f32) (harg6 : arg6.IsWhole) (arg7 : Memref sig .tc .vmem S32x1 .f32) (harg7 : arg7.IsWhole) (hc0 : cond1_0 i) (hc1 : ¬cond1_1 i) (hc2 : ¬cond1_2 i)
    (x0 : Vec F S32x256 .f32) (x1 : Vec F S256x8192 .f32) (x2 : Vec F S1x8192 .f32) (x4 : Vec F S32x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ x, owns (c : Thread nD τ) arg4 fullShare x) ∗ owns (c : Thread nD τ) arg5 fullShare x4 ∗ (∃ x, owns (c : Thread nD τ) arg6 fullShare x) ∗ (∃ x, owns (c : Thread nD τ) arg7 fullShare x)
        ∗ (iprop(owns (c : Thread nD τ) arg1 fullShare x0 ∗ owns (c : Thread nD τ) arg2 fullShare x1 ∗ owns (c : Thread nD τ) arg3 fullShare x2 ∗ owns (c : Thread nD τ) arg4 fullShare (k1_pay1 i x0 x1 x2) ∗ owns (c : Thread nD τ) arg5 fullShare x4 ∗ owns (c : Thread nD τ) arg6 fullShare (k1_pay3 i x0 x1 x2) ∗ owns (c : Thread nD τ) arg7 fullShare (k1_pay4 i x0 x1 x2)) -∗ K ⟨⟩))
      ⊢ wp frame (wpE (defs₀ (F := F)) Variants.none c none) E (cc1__logits_body i arg1 harg1 arg2 harg2 arg3 harg3 arg4 harg4 arg5 harg5 arg6 harg6 arg7 harg7) K := by
  simp only [cc1__logits_body_eq_skeleton]; unfold cc1__logits_body_skel
  unfold owns
  iintro ⟨⟨%f0, %hf0, H0⟩, ⟨%f1, %hf1, H1⟩, ⟨%f2, %hf2, H2⟩, ⟨%x3_, %f3, %hf3, H3⟩, ⟨%f4, %hf4, H4⟩, ⟨%x5_, %f5, %hf5, H5⟩, ⟨%x6_, %f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_eq_canon _ _ _ (View.cover_of_tiledL _ S32x8192.size (by sl_kernel_rfl))).trans ?_
    frame_out
  isplitl [H4]
  · iexists _; isplitr; · ipureintro; exact harg5.read_unread _
    iexact H4
  isplitl [H5]
  · iexists _; isplitr
    swap; · iexact H5
    ipureintro
    refine (View.read_writes_eq_canon _ _ _ (View.cover_of_tiledL _ S32x1.size (by sl_kernel_rfl))).trans ?_
    frame_out
  iexists _; isplitr
  swap; · iexact H6
  ipureintro
  refine (View.read_writes_eq_canon _ _ _ (View.cover_of_tiledL _ S32x1.size (by sl_kernel_rfl))).trans ?_
  frame_out

set_option maxHeartbeats 1000000 in
/-- A middle point: the logits are stored, the running maximum and sum take the tile's step. -/
theorem logits_mid (c : Dev nD) (i : grid1.Coords) (arg1 : Memref sig .tc .vmem S32x256 .f32) (harg1 : arg1.IsWhole) (arg2 : Memref sig .tc .vmem S256x8192 .f32) (harg2 : arg2.IsWhole) (arg3 : Memref sig .tc .vmem S1x8192 .f32) (harg3 : arg3.IsWhole) (arg4 : Memref sig .tc .vmem S32x8192 .f32) (harg4 : arg4.IsWhole) (arg5 : Memref sig .tc .vmem S32x128 .f32) (harg5 : arg5.IsWhole) (arg6 : Memref sig .tc .vmem S32x1 .f32) (harg6 : arg6.IsWhole) (arg7 : Memref sig .tc .vmem S32x1 .f32) (harg7 : arg7.IsWhole) (hc0 : ¬cond1_0 i) (hc1 : cond1_1 i) (hc2 : ¬cond1_2 i)
    (x0 : Vec F S32x256 .f32) (x1 : Vec F S256x8192 .f32) (x2 : Vec F S1x8192 .f32) (x4 : Vec F S32x128 .f32) (x5 x6 : Vec F S32x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ x, owns (c : Thread nD τ) arg4 fullShare x) ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare (k1_pay1 i x0 x1 x2) ∗ owns (c : Thread nD τ) arg5 fullShare x4 ∗ owns (c : Thread nD τ) arg6 fullShare (k1_pay7 i x0 x1 x2 x5) ∗ owns (c : Thread nD τ) arg7 fullShare (k1_pay6 i x0 x1 x2 x5 x6)) -∗ K ⟨⟩))
      ⊢ wp frame (wpE (defs₀ (F := F)) Variants.none c none) E (cc1__logits_body i arg1 harg1 arg2 harg2 arg3 harg3 arg4 harg4 arg5 harg5 arg6 harg6 arg7 harg7) K := by
  simp only [cc1__logits_body_eq_skeleton]; unfold cc1__logits_body_skel
  unfold owns
  iintro ⟨⟨%f0, %hf0, H0⟩, ⟨%f1, %hf1, H1⟩, ⟨%f2, %hf2, H2⟩, ⟨%x3_, %f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_eq_canon _ _ _ (View.cover_of_tiledL _ S32x8192.size (by sl_kernel_rfl))).trans ?_
    frame_out
  isplitl [H4]
  · iexists _; isplitr; · ipureintro; exact harg5.read_unread _
    iexact H4
  isplitl [H5]
  · iexists _; isplitr
    swap; · iexact H5
    ipureintro
    refine (View.read_writes_eq_canon _ _ _ (View.cover_of_tiledL _ S32x1.size (by sl_kernel_rfl))).trans ?_
    frame_out
  iexists _; isplitr
  swap; · iexact H6
  ipureintro
  refine (View.read_writes_eq_canon _ _ _ (View.cover_of_tiledL _ S32x1.size (by sl_kernel_rfl))).trans ?_
  frame_out

set_option maxHeartbeats 1000000 in
/-- The last point: as a middle point, and the row's logarithm of the sum of exponentials is stored. -/
theorem logits_last (c : Dev nD) (i : grid1.Coords) (arg1 : Memref sig .tc .vmem S32x256 .f32) (harg1 : arg1.IsWhole) (arg2 : Memref sig .tc .vmem S256x8192 .f32) (harg2 : arg2.IsWhole) (arg3 : Memref sig .tc .vmem S1x8192 .f32) (harg3 : arg3.IsWhole) (arg4 : Memref sig .tc .vmem S32x8192 .f32) (harg4 : arg4.IsWhole) (arg5 : Memref sig .tc .vmem S32x128 .f32) (harg5 : arg5.IsWhole) (arg6 : Memref sig .tc .vmem S32x1 .f32) (harg6 : arg6.IsWhole) (arg7 : Memref sig .tc .vmem S32x1 .f32) (harg7 : arg7.IsWhole) (hc0 : ¬cond1_0 i) (hc1 : cond1_1 i) (hc2 : cond1_2 i)
    (x0 : Vec F S32x256 .f32) (x1 : Vec F S256x8192 .f32) (x2 : Vec F S1x8192 .f32) (x5 x6 : Vec F S32x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ x, owns (c : Thread nD τ) arg4 fullShare x) ∗ (∃ x, owns (c : Thread nD τ) arg5 fullShare x) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare (k1_pay1 i x0 x1 x2) ∗ owns (c : Thread nD τ) arg5 fullShare (k1_pay8 (k1_pay7 i x0 x1 x2 x5) (k1_pay6 i x0 x1 x2 x5 x6)) ∗ owns (c : Thread nD τ) arg6 fullShare (k1_pay7 i x0 x1 x2 x5) ∗ owns (c : Thread nD τ) arg7 fullShare (k1_pay6 i x0 x1 x2 x5 x6)) -∗ K ⟨⟩))
      ⊢ wp frame (wpE (defs₀ (F := F)) Variants.none c none) E (cc1__logits_body i arg1 harg1 arg2 harg2 arg3 harg3 arg4 harg4 arg5 harg5 arg6 harg6 arg7 harg7) K := by
  simp only [cc1__logits_body_eq_skeleton]; unfold cc1__logits_body_skel
  unfold owns
  iintro ⟨⟨%f0, %hf0, H0⟩, ⟨%f1, %hf1, H1⟩, ⟨%f2, %hf2, H2⟩, ⟨%x3_, %f3, %hf3, H3⟩, ⟨%x4_, %f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_eq_canon _ _ _ (View.cover_of_tiledL _ S32x8192.size (by sl_kernel_rfl))).trans ?_
    frame_out
  isplitl [H4]
  · iexists _; isplitr
    swap; · iexact H4
    ipureintro
    refine (View.read_writes_eq_canon _ _ _ (View.cover_of_tiledL _ S32x128.size (by sl_kernel_rfl))).trans ?_
    frame_out
  isplitl [H5]
  · iexists _; isplitr
    swap; · iexact H5
    ipureintro
    refine (View.read_writes_eq_canon _ _ _ (View.cover_of_tiledL _ S32x1.size (by sl_kernel_rfl))).trans ?_
    frame_out
  iexists _; isplitr
  swap; · iexact H6
  ipureintro
  refine (View.read_writes_eq_canon _ _ _ (View.cover_of_tiledL _ S32x1.size (by sl_kernel_rfl))).trans ?_
  frame_out

end Cert.KernelIdeal.Hand

end
-- ==== Proof.KI.Region1.lean ====
/-
  The second region: its data, its invariant (the running maximum and sum after each point) and its body obligation.
-/
module

public import proofs.«01_k».proof.Proof.KI.Body1
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (X : Dev nD → Valuation τ sig (Elt F))

/-- Window `w`'s block at point `t`, read off the array as the region finds it. -/
def iblk1 (c : Dev nD) (w : Fin 5) (t : Fin cfg1.N) : ((cfg1.win w).xblock (cfg1.grid.coords t)).Idx → Elt F (cfg1.win w).elt :=
  ((cfg1.win w).blk t).view.read (Elt F) (X c (Proc.devRef .tc (Pipeline.arrRef spec1 w)))

/-- Point `n` of the grid, counted round. -/
def pt1 (n : ℕ) : Fin cfg1.N := ⟨n % 13, lt_of_lt_of_eq (Nat.mod_lt _ (by decide)) N_1.symm⟩
theorem pt1_val (t : Fin cfg1.N) : pt1 t.val = t := Fin.ext (Nat.mod_eq_of_lt (lt_of_lt_of_eq t.isLt N_1))

abbrev ms1_0 (t : Fin cfg1.N) : Memref sig .tc .vmem S32x256 .f32 := win1_0.stage (cfg1.slots t 0)
abbrev ms1_1 (t : Fin cfg1.N) : Memref sig .tc .vmem S256x8192 .f32 := win1_1.stage (cfg1.slots t 1)
abbrev ms1_2 (t : Fin cfg1.N) : Memref sig .tc .vmem S1x8192 .f32 := win1_2.stage (cfg1.slots t 2)
abbrev ms1_3 (t : Fin cfg1.N) : Memref sig .tc .vmem S32x8192 .f32 := win1_3.stage (cfg1.slots t 3)
abbrev ms1_4 (t : Fin cfg1.N) : Memref sig .tc .vmem S32x128 .f32 := win1_4.stage (cfg1.slots t 4)
/-- Input window 0's block at point `t`. -/
abbrev blk1_0 (c : Dev nD) (t : Fin cfg1.N) : Vec F S32x256 .f32 := iblk1 X c 0 t
/-- Input window 1 filled with its block at point `t`, the part outside the array held at `d`. -/
abbrev blk1_1 (c : Dev nD) (t : Fin cfg1.N) (d : Vec F S256x8192 .f32) : Vec F S256x8192 .f32 := (cfg1.win 1).fill (cfg1.grid.coords t) d (iblk1 X c 1 t)
/-- Input window 2 filled with its block at point `t`, the part outside the array held at `d`. -/
abbrev blk1_2 (c : Dev nD) (t : Fin cfg1.N) (d : Vec F S1x8192 .f32) : Vec F S1x8192 .f32 := (cfg1.win 2).fill (cfg1.grid.coords t) d (iblk1 X c 2 t)

/-- What the running maximum and the running sum may hold after point `n`, whatever the unfilled parts of the blocks held. -/
def Run1 (c : Dev nD) : ℕ → Vec F S32x1 .f32 → Vec F S32x1 .f32 → Prop
  | 0, mx, sm => ∃ d1 d2, mx = k1_pay3 (cfg1.grid.coords (pt1 0)) (blk1_0 X c (pt1 0)) (blk1_1 X c (pt1 0) d1) (blk1_2 X c (pt1 0) d2)
      ∧ sm = k1_pay4 (cfg1.grid.coords (pt1 0)) (blk1_0 X c (pt1 0)) (blk1_1 X c (pt1 0) d1) (blk1_2 X c (pt1 0) d2)
  | n + 1, mx, sm => ∃ mx' sm' d1 d2, Run1 c n mx' sm'
      ∧ mx = k1_pay7 (cfg1.grid.coords (pt1 (n + 1))) (blk1_0 X c (pt1 (n + 1))) (blk1_1 X c (pt1 (n + 1)) d1) (blk1_2 X c (pt1 (n + 1)) d2) mx'
      ∧ sm = k1_pay6 (cfg1.grid.coords (pt1 (n + 1))) (blk1_0 X c (pt1 (n + 1))) (blk1_1 X c (pt1 (n + 1)) d1) (blk1_2 X c (pt1 (n + 1)) d2) mx' sm'

theorem Run1_first (c : Dev nD) (t : Fin cfg1.N) (h : t.val = 0) (d1 d2) :
    Run1 X c t.val (k1_pay3 (cfg1.grid.coords t) (blk1_0 X c t) (blk1_1 X c t d1) (blk1_2 X c t d2)) (k1_pay4 (cfg1.grid.coords t) (blk1_0 X c t) (blk1_1 X c t d1) (blk1_2 X c t d2)) := by
  have e : pt1 0 = t := by rw [← h, pt1_val]
  rw [h, Run1, e]; exact ⟨d1, d2, rfl, rfl⟩

theorem Run1_next (c : Dev nD) (t : Fin cfg1.N) (h : t.val ≠ 0) (mx sm) (hr : Run1 X c (t.val - 1) mx sm) (d1 d2) :
    Run1 X c t.val (k1_pay7 (cfg1.grid.coords t) (blk1_0 X c t) (blk1_1 X c t d1) (blk1_2 X c t d2) mx) (k1_pay6 (cfg1.grid.coords t) (blk1_0 X c t) (blk1_1 X c t d1) (blk1_2 X c t d2) mx sm) := by
  obtain ⟨n, hn⟩ : ∃ n, t.val = n + 1 := Nat.exists_eq_succ_of_ne_zero h
  have e : pt1 (n + 1) = t := by rw [← hn, pt1_val]
  rw [hn, Nat.add_sub_cancel] at hr
  rw [hn, Run1, e]; exact ⟨mx, sm, d1, d2, hr, rfl, rfl⟩

abbrev scM1 : Memref sig .tc .vmem S32x1 .f32 := Memref.whole cc1_scratch0
abbrev scS1 : Memref sig .tc .vmem S32x1 .f32 := Memref.whole cc1_scratch1

/-- The scoped buffers the region does not stage, with the carried ones taken out. -/
theorem scoped_split1 (c : Dev nD) : (Pipeline.scopedRest (Ix := Unit) (Name := ℕ) (U := UU) (Lvl := ℕ) (Val := Elt F) spec1 c : sProp 𝕄)
    ⊢ iprop((∃ d, owns (c : Thread nD τ) (Memref.whole cc1_scratch0 : Memref sig .tc .vmem S32x1 .f32) fullShare d) ∗ (∃ d, owns (c : Thread nD τ) (Memref.whole cc1_scratch1 : Memref sig .tc .vmem S32x1 .f32) fullShare d) ∗ (((∃ d, owns (c : Thread nD τ) (Memref.whole cc1_scratch0 : Memref sig .tc .vmem S32x1 .f32) fullShare d) ∗ (∃ d, owns (c : Thread nD τ) (Memref.whole cc1_scratch1 : Memref sig .tc .vmem S32x1 .f32) fullShare d)) -∗ Pipeline.scopedRest (Ix := Unit) (Name := ℕ) (U := UU) (Lvl := ℕ) (Val := Elt F) spec1 c)) := by
  rw [scopedRest1_eq]
  simp only [owns_whole]
  iintro ⟨H0, H1, H2, H3, H4, H5, H6, H7, H8, H9, H10, H11, H12, H13, H14, H15, H16, H17, H18, H19, H20⟩
  isplitl [H14]; · iexact H14
  isplitl [H15]; · iexact H15
  iintro ⟨G14, G15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [G14]; · iexact G14
  isplitl [G15]; · iexact G15
  isplitl [H16]; · iexact H16
  isplitl [H17]; · iexact H17
  isplitl [H18]; · iexact H18
  isplitl [H19]; · iexact H19
  iexact H20

/-- The invariant before position `n`: the running maximum and sum at something the points before can leave. -/
def Phi1 (c : Dev nD) : ℕ → sProp 𝕄
  | 0 => Pipeline.scopedRest (Ix := Unit) (Name := ℕ) (U := UU) (Lvl := ℕ) (Val := Elt F) spec1 c
  | n + 1 => iprop(∃ mx sm, ⌜Run1 X c n mx sm⌝ ∗ owns (c : Thread nD τ) scM1 fullShare mx ∗ owns (c : Thread nD τ) scS1 fullShare sm ∗ (((∃ d, owns (c : Thread nD τ) scM1 fullShare d) ∗ (∃ d, owns (c : Thread nD τ) scS1 fullShare d)) -∗ Pipeline.scopedRest (Ix := Unit) (Name := ℕ) (U := UU) (Lvl := ℕ) (Val := Elt F) spec1 c))

theorem Phi1_pos (c : Dev nD) (n : ℕ) (h : n ≠ 0) : Phi1 X c n = iprop(∃ mx sm, ⌜Run1 X c (n - 1) mx sm⌝ ∗ owns (c : Thread nD τ) scM1 fullShare mx ∗ owns (c : Thread nD τ) scS1 fullShare sm ∗ (((∃ d, owns (c : Thread nD τ) scM1 fullShare d) ∗ (∃ d, owns (c : Thread nD τ) scS1 fullShare d)) -∗ Pipeline.scopedRest (Ix := Unit) (Name := ℕ) (U := UU) (Lvl := ℕ) (Val := Elt F) spec1 c)) := by
  cases n with
  | zero => exact absurd rfl h
  | succ n => rfl

/-- The region's data: the arrays as found, each input's buffer left at its block, the outputs held by relation. -/
def dat1 (c : Dev nD) : Dat τ (Elt F) Unit ℕ (UU) ℕ cfg1 c where
  A w := X c (Proc.devRef .tc (Pipeline.arrRef spec1 w))
  after w t := match w with
    | ⟨0, _⟩ => iblk1 X c 0 t
    | ⟨1, _⟩ => (cfg1.win 1).fill (cfg1.grid.coords t) (fun _ => Classical.arbitrary _) (iblk1 X c 1 t)
    | ⟨2, _⟩ => (cfg1.win 2).fill (cfg1.grid.coords t) (fun _ => Classical.arbitrary _) (iblk1 X c 2 t)
    | ⟨3, _⟩ => Pipeline.Dat.unnamed (cfg := cfg1) 3 t
    | ⟨4, _⟩ => Pipeline.Dat.unnamed (cfg := cfg1) 4 t
  Φ t := Phi1 X c t.val
  q _ := fullShare
  owed _ := 0

theorem A_eq1 (c : Dev nD) (w : Fin cfg1.W) : (dat1 X c).A w = X c (Proc.devRef .tc (Pipeline.arrRef spec1 w)) := by
  dsimp only [dat1]
theorem after1_0 (c : Dev nD) (t : Fin cfg1.N) : (dat1 X c).after 0 t = blk1_0 X c t := by dsimp only [dat1]
theorem before1_0 (c : Dev nD) (t : Fin cfg1.N) (d) : (dat1 X c).before 0 t d = blk1_0 X c t :=
  ((dat1 X c).before_in_eq_fetched 0 rfl (fun _ => rfl) (fun _ _ _ => rfl) (fun t => by rw [after1_0]; unfold Dat.blockOf blk1_0 iblk1; rw [A_eq1]; try rfl) t d).trans
    (by unfold Dat.fetched Dat.blockOf blk1_0 iblk1; rw [A_eq1]; try rfl)
theorem after1_1 (c : Dev nD) (t : Fin cfg1.N) : (dat1 X c).after 1 t = (cfg1.win 1).fill (cfg1.grid.coords t) (fun _ => Classical.arbitrary _) (iblk1 X c 1 t) := by dsimp only [dat1]
theorem cut1_1 (c : Dev nD) (t : Fin cfg1.N) : (cfg1.win 1).cut (cfg1.grid.coords t) ((dat1 X c).after 1 t) = iblk1 X c 1 t := by
  rw [after1_1]; exact (cfg1.win 1).cut_fill _ _ _
theorem keep1_1 (c : Dev nD) (t : Fin cfg1.N) (d) : (owns (c : Thread nD τ) (ms1_1 t) fullShare (blk1_1 X c t d) : sProp 𝕄)
    ⊢ iprop(∃ d, owns (c : Thread nD τ) (ms1_1 t) fullShare ((cfg1.win 1).fill (cfg1.grid.coords t) d ((cfg1.win 1).cut (cfg1.grid.coords t) ((dat1 X c).after 1 t)))) := by
  rw [cut1_1]; iintro H; iexists d; iexact H
theorem before1_1 (c : Dev nD) (t : Fin cfg1.N) (d) : (dat1 X c).before 1 t d = blk1_1 X c t d :=
  ((dat1 X c).before_fetched 1 t (fetch1_1 t) d).trans (by unfold Dat.fetched Dat.blockOf blk1_1 iblk1; rw [A_eq1])
theorem after1_2 (c : Dev nD) (t : Fin cfg1.N) : (dat1 X c).after 2 t = (cfg1.win 2).fill (cfg1.grid.coords t) (fun _ => Classical.arbitrary _) (iblk1 X c 2 t) := by dsimp only [dat1]
theorem cut1_2 (c : Dev nD) (t : Fin cfg1.N) : (cfg1.win 2).cut (cfg1.grid.coords t) ((dat1 X c).after 2 t) = iblk1 X c 2 t := by
  rw [after1_2]; exact (cfg1.win 2).cut_fill _ _ _
theorem keep1_2 (c : Dev nD) (t : Fin cfg1.N) (d) : (owns (c : Thread nD τ) (ms1_2 t) fullShare (blk1_2 X c t d) : sProp 𝕄)
    ⊢ iprop(∃ d, owns (c : Thread nD τ) (ms1_2 t) fullShare ((cfg1.win 2).fill (cfg1.grid.coords t) d ((cfg1.win 2).cut (cfg1.grid.coords t) ((dat1 X c).after 2 t)))) := by
  rw [cut1_2]; iintro H; iexists d; iexact H
theorem before1_2 (c : Dev nD) (t : Fin cfg1.N) (d) : (dat1 X c).before 2 t d = blk1_2 X c t d :=
  ((dat1 X c).before_fetched 2 t (fetch1_2 t) d).trans (by unfold Dat.fetched Dat.blockOf blk1_2 iblk1; rw [A_eq1])

/-- Which windows are held by relation. -/
def mk1 : Fin cfg1.W → Bool := fun | ⟨0, _⟩ => false | ⟨1, _⟩ => false | ⟨2, _⟩ => false | ⟨3, _⟩ => true | ⟨4, _⟩ => true

/-- What each output's buffer is left at. -/
def Rl1 (c : Dev nD) : (w : Fin cfg1.W) → Fin cfg1.N → ((cfg1.win w).block.Idx → Elt F (cfg1.win w).elt) → Prop := fun w t => match w with
    | ⟨0, _⟩ => fun Y => True
    | ⟨1, _⟩ => fun Y => True
    | ⟨2, _⟩ => fun Y => True
    | ⟨3, _⟩ => fun Y => (∃ d1 d2, Y = k1_pay1 (cfg1.grid.coords t) (blk1_0 X c t) (blk1_1 X c t d1) (blk1_2 X c t d2))
    | ⟨4, _⟩ => fun Y => (t.val = 12 → ∃ mx sm, Run1 X c 12 mx sm ∧ Y = k1_pay8 mx sm)

/-- What the body is called with at point `t`, the windows one by one. -/
def bodyPre1 (c : Dev nD) (t : Fin cfg1.N) : sProp 𝕄 :=
  iprop((dat1 X c).Φ t.castSucc ∗ (dat1 X c).owesAt () t.castSucc
    ∗ (∃ d, owns (c : Thread nD τ) (ms1_0 t) fullShare ((dat1 X c).before 0 t d))
    ∗ (∃ d, owns (c : Thread nD τ) (ms1_1 t) fullShare ((dat1 X c).before 1 t d))
    ∗ (∃ d, owns (c : Thread nD τ) (ms1_2 t) fullShare ((dat1 X c).before 2 t d))
    ∗ (∃ Y, ⌜((dat1 X c).toRRel mk1 (Rl1 X c)).Finds 3 t Y⌝ ∗ owns (c : Thread nD τ) (ms1_3 t) fullShare Y)
    ∗ (∃ Y, ⌜((dat1 X c).toRRel mk1 (Rl1 X c)).Finds 4 t Y⌝ ∗ owns (c : Thread nD τ) (ms1_4 t) fullShare Y))

/-- What it returns. -/
def bodyPost1 (c : Dev nD) (t : Fin cfg1.N) : sProp 𝕄 :=
  iprop((dat1 X c).Φ t.succ ∗ (dat1 X c).owesAt () t.succ
    ∗ owns (c : Thread nD τ) (ms1_0 t) fullShare ((dat1 X c).after 0 t)
    ∗ (∃ d, owns (c : Thread nD τ) (ms1_1 t) fullShare ((cfg1.win 1).fill (cfg1.grid.coords t) d ((cfg1.win 1).cut (cfg1.grid.coords t) ((dat1 X c).after 1 t))))
    ∗ (∃ d, owns (c : Thread nD τ) (ms1_2 t) fullShare ((cfg1.win 2).fill (cfg1.grid.coords t) d ((cfg1.win 2).cut (cfg1.grid.coords t) ((dat1 X c).after 2 t))))
    ∗ (∃ Y, ⌜Rl1 X c 3 t Y⌝ ∗ owns (c : Thread nD τ) (ms1_3 t) fullShare Y)
    ∗ (∃ Y, ⌜Rl1 X c 4 t Y⌝ ∗ owns (c : Thread nD τ) (ms1_4 t) fullShare Y))

set_option maxHeartbeats 4000000 in
/-- The body at any point. -/
theorem sound_body1 (c : Dev nD) (t : Fin cfg1.N) :
    bodyPre1 X c t ⊢ wp frame (wpE (defs₀ (F := F)) Variants.none c none) Set.univ (bodyAt1 t) (fun _ => bodyPost1 X c t) := by
  unfold bodyPre1 bodyPost1 bodyAt1
  simp only [before1_0, before1_1, before1_2, after1_0]
  rw [show (dat1 X c).owesAt () t.succ = (dat1 X c).owesAt () t.castSucc from rfl]
  rw [show (dat1 X c).Φ t.succ = Phi1 X c (t.val + 1) from rfl, show (dat1 X c).Φ t.castSucc = Phi1 X c t.val from rfl]
  have hN : t.val < 13 := lt_of_lt_of_eq t.isLt N_1
  by_cases h0 : t.val = 0
  · have h1 : ¬t.val = 12 := by omega
    rw [show Phi1 X c t.val = Pipeline.scopedRest (Ix := Unit) (Name := ℕ) (U := UU) (Lvl := ℕ) (Val := Elt F) spec1 c from by rw [h0]; rfl]
    iintro ⟨HΦ, Ho, ⟨%d0, H0⟩, ⟨%d1, H1⟩, ⟨%d2, H2⟩, ⟨%Y3, %hY3, H3⟩, ⟨%Y4, %hY4, H4⟩⟩
    ihave HΦ' := (scoped_split1 (F := F) c) $$ HΦ
    icases HΦ' with ⟨HM, HS, Hw⟩
    iapply (logits_first c (cfg1.grid.coords t) _ _ _ _ _ _ _ _ _ _ _ _ _ _ ((hcond1_0 t).mpr (by omega)) (fun h => (hcond1_1 t).mp h (by omega)) (fun h => h1 (by have := (hcond1_2 t).mp h; omega)) (blk1_0 X c t) (blk1_1 X c t d1) (blk1_2 X c t d2) Y4 Set.univ _)
    isplitl [H0]; · iexact H0
    isplitl [H1]; · iexact H1
    isplitl [H2]; · iexact H2
    isplitl [H3]; · iexists _; iexact H3
    isplitl [H4]; · iexact H4
    isplitl [HM]; · iexact HM
    isplitl [HS]; · iexact HS
    iintro ⟨H0, H1, H2, H3, H4, HM, HS⟩
    isplitl [HM HS Hw]
    · unfold Phi1; iexists _; iexists _
      isplitr; · ipureintro; exact Run1_first X c t h0 d1 d2
      isplitl [HM]; · iexact HM
      isplitl [HS]; · iexact HS
      iexact Hw
    isplitl [Ho]; · iexact Ho
    isplitl [H0]; · iexact H0
    isplitl [H1]; · iapply (keep1_1 X c t d1); iexact H1
    isplitl [H2]; · iapply (keep1_2 X c t d2); iexact H2
    isplitl [H3]
    · iexists _; isplitr; swap; · iexact H3
      ipureintro; exact ⟨d1, d2, rfl⟩
    iexists _; isplitr; swap; · iexact H4
    ipureintro; intro h7; exact absurd h7 h1
  rw [Phi1_pos X c t.val h0]
  by_cases h1 : t.val = 12
  · iintro ⟨HΦ, Ho, ⟨%d0, H0⟩, ⟨%d1, H1⟩, ⟨%d2, H2⟩, ⟨%Y3, %hY3, H3⟩, ⟨%Y4, %hY4, H4⟩⟩
    icases HΦ with ⟨%mx, %sm, %hr, HM, HS, Hw⟩
    iapply (logits_last c (cfg1.grid.coords t) _ _ _ _ _ _ _ _ _ _ _ _ _ _ (fun h => h0 (by have := (hcond1_0 t).mp h; omega)) ((hcond1_1 t).mpr (by omega)) ((hcond1_2 t).mpr (by omega)) (blk1_0 X c t) (blk1_1 X c t d1) (blk1_2 X c t d2) mx sm Set.univ _)
    isplitl [H0]; · iexact H0
    isplitl [H1]; · iexact H1
    isplitl [H2]; · iexact H2
    isplitl [H3]; · iexists _; iexact H3
    isplitl [H4]; · iexists _; iexact H4
    isplitl [HM]; · iexact HM
    isplitl [HS]; · iexact HS
    iintro ⟨H0, H1, H2, H3, H4, HM, HS⟩
    isplitl [HM HS Hw]
    · unfold Phi1; iexists _; iexists _
      isplitr; · ipureintro; exact Run1_next X c t h0 mx sm hr d1 d2
      isplitl [HM]; · iexact HM
      isplitl [HS]; · iexact HS
      iexact Hw
    isplitl [Ho]; · iexact Ho
    isplitl [H0]; · iexact H0
    isplitl [H1]; · iapply (keep1_1 X c t d1); iexact H1
    isplitl [H2]; · iapply (keep1_2 X c t d2); iexact H2
    isplitl [H3]
    · iexists _; isplitr; swap; · iexact H3
      ipureintro; exact ⟨d1, d2, rfl⟩
    iexists _; isplitr; swap; · iexact H4
    ipureintro; intro _; have h := Run1_next X c t h0 mx sm hr d1 d2; rw [h1] at h; exact ⟨_, _, h, rfl⟩
  · iintro ⟨HΦ, Ho, ⟨%d0, H0⟩, ⟨%d1, H1⟩, ⟨%d2, H2⟩, ⟨%Y3, %hY3, H3⟩, ⟨%Y4, %hY4, H4⟩⟩
    icases HΦ with ⟨%mx, %sm, %hr, HM, HS, Hw⟩
    iapply (logits_mid c (cfg1.grid.coords t) _ _ _ _ _ _ _ _ _ _ _ _ _ _ (fun h => h0 (by have := (hcond1_0 t).mp h; omega)) ((hcond1_1 t).mpr (by omega)) (fun h => h1 (by have := (hcond1_2 t).mp h; omega)) (blk1_0 X c t) (blk1_1 X c t d1) (blk1_2 X c t d2) Y4 mx sm Set.univ _)
    isplitl [H0]; · iexact H0
    isplitl [H1]; · iexact H1
    isplitl [H2]; · iexact H2
    isplitl [H3]; · iexists _; iexact H3
    isplitl [H4]; · iexact H4
    isplitl [HM]; · iexact HM
    isplitl [HS]; · iexact HS
    iintro ⟨H0, H1, H2, H3, H4, HM, HS⟩
    isplitl [HM HS Hw]
    · unfold Phi1; iexists _; iexists _
      isplitr; · ipureintro; exact Run1_next X c t h0 mx sm hr d1 d2
      isplitl [HM]; · iexact HM
      isplitl [HS]; · iexact HS
      iexact Hw
    isplitl [Ho]; · iexact Ho
    isplitl [H0]; · iexact H0
    isplitl [H1]; · iapply (keep1_1 X c t d1); iexact H1
    isplitl [H2]; · iapply (keep1_2 X c t d2); iexact H2
    isplitl [H3]
    · iexists _; isplitr; swap; · iexact H3
      ipureintro; exact ⟨d1, d2, rfl⟩
    iexists _; isplitr; swap; · iexact H4
    ipureintro; intro h7; exact absurd h7 h1

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

/-- The body obligation of the region, the outputs by relation. -/
theorem body_obligation1 (c : Dev nD) : Pipeline.BodyObligationRel (dat1 X c) (defs₀ (F := F)) Variants.none () Set.univ mk1 (Rl1 X c) := fun t => by
  rw [bigSep_W1, bigSep_W1, defs₀_row1]
  exact triple_restated (sound_body1 X c t) rfl .rfl fun _ => .rfl

/-- The launch's scoped buffers are the invariant before the first point, -/
theorem hin1 (c : Dev nD) : (Pipeline.scopedRest (Ix := Unit) (Name := ℕ) (U := UU) (Lvl := ℕ) (Val := Elt F) spec1 c : sProp 𝕄) ⊢ (dat1 X c).Φ 0 := by
  rw [show (dat1 X c).Φ 0 = Phi1 X c 0 from rfl]; exact .rfl

/-- and the invariant after the last point gives them back. -/
theorem hout1 (c : Dev nD) : (dat1 X c).Φ (Fin.last cfg1.N) ⊢ (Pipeline.scopedRest (Ix := Unit) (Name := ℕ) (U := UU) (Lvl := ℕ) (Val := Elt F) spec1 c : sProp 𝕄) := by
  rw [show (dat1 X c).Φ (Fin.last cfg1.N) = Phi1 X c cfg1.N from rfl, Phi1_pos X c _ (by rw [show cfg1.N = 13 from N_1]; decide)]
  iintro ⟨%mx, %sm, %hr, HM, HS, Hw⟩
  iapply Hw
  isplitl [HM]; · iexists _; iexact HM
  iexists _; iexact HS

end Cert.KernelIdeal.Hand

end
-- ==== Proof.KI.Body2.lean ====
/-
  What one grid point of the third kernel (the subtraction of the row's normalizer) leaves in its buffers.
-/
module

public import proofs.«01_k».proof.Proof.KI.Algebra
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- The normalizer's first column, as the body loads it. -/
abbrev lcol (x1 : Vec F S32x128 .f32) : Vec F S32x1 .f32 := View.ld x1 (Rect.unit (s := S32x128) ![0, 0] S32x1.size inb_S32x128_S32x1_0_0)

set_option maxHeartbeats 1000000 in
/-- A point: the block of logits less the row's normalizer. -/
theorem sub_point (c : Dev nD) (i : grid2.Coords) (arg1 : Memref sig .tc .vmem S32x12288 .f32) (harg1 : arg1.IsWhole) (arg2 : Memref sig .tc .vmem S32x128 .f32) (harg2 : arg2.IsWhole) (arg3 : Memref sig .tc .vmem S32x12288 .f32) (harg3 : arg3.IsWhole)
    (x0 : Vec F S32x12288 .f32) (x1 : Vec F S32x128 .f32) (E : Set ℕ) (K : PUnit → sProp 𝕄) :
    iprop(owns (c : Thread nD τ) arg1 fullShare x0 ∗ owns (c : Thread nD τ) arg2 fullShare x1 ∗ (∃ x, owns (c : Thread nD τ) arg3 fullShare x)
        ∗ (iprop(owns (c : Thread nD τ) arg1 fullShare x0 ∗ owns (c : Thread nD τ) arg2 fullShare x1 ∗ owns (c : Thread nD τ) arg3 fullShare (k2_pay1 x0 (lcol x1))) -∗ K ⟨⟩))
      ⊢ wp frame (wpE (defs₀ (F := F)) Variants.none c none) E (cc2__sub_body i arg1 harg1 arg2 harg2 arg3 harg3) K := by
  simp only [cc2__sub_body_eq_skeleton]; unfold cc2__sub_body_skel
  unfold owns
  iintro ⟨⟨%f0, %hf0, H0⟩, ⟨%f1, %hf1, H1⟩, ⟨%x2_, %f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_eq_canon _ _ _ (View.cover_of_tiledL _ S32x12288.size (by sl_kernel_rfl))).trans ?_
  frame_out

end Cert.KernelIdeal.Hand

end
-- ==== Proof.KI.Region2.lean ====
/-
  The third region: its data, its invariant (nothing carried) and its body obligation.
-/
module

public import proofs.«01_k».proof.Proof.KI.Body2
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (X : Dev nD → Valuation τ sig (Elt F))

/-- Window `w`'s block at point `t`, read off the array as the region finds it. -/
def iblk2 (c : Dev nD) (w : Fin 3) (t : Fin cfg2.N) : ((cfg2.win w).xblock (cfg2.grid.coords t)).Idx → Elt F (cfg2.win w).elt :=
  ((cfg2.win w).blk t).view.read (Elt F) (X c (Proc.devRef .tc (Pipeline.arrRef spec2 w)))

/-- Point `n` of the grid, counted round. -/
def pt2 (n : ℕ) : Fin cfg2.N := ⟨n % 9, lt_of_lt_of_eq (Nat.mod_lt _ (by decide)) N_2.symm⟩
theorem pt2_val (t : Fin cfg2.N) : pt2 t.val = t := Fin.ext (Nat.mod_eq_of_lt (lt_of_lt_of_eq t.isLt N_2))

abbrev ms2_0 (t : Fin cfg2.N) : Memref sig .tc .vmem S32x12288 .f32 := win2_0.stage (cfg2.slots t 0)
abbrev ms2_1 (t : Fin cfg2.N) : Memref sig .tc .vmem S32x128 .f32 := win2_1.stage (cfg2.slots t 1)
abbrev ms2_2 (t : Fin cfg2.N) : Memref sig .tc .vmem S32x12288 .f32 := win2_2.stage (cfg2.slots t 2)
/-- Input window 0 filled with its block at point `t`, the part outside the array held at `d`. -/
abbrev blk2_0 (c : Dev nD) (t : Fin cfg2.N) (d : Vec F S32x12288 .f32) : Vec F S32x12288 .f32 := (cfg2.win 0).fill (cfg2.grid.coords t) d (iblk2 X c 0 t)
/-- Input window 1's block at point `t`. -/
abbrev blk2_1 (c : Dev nD) (t : Fin cfg2.N) : Vec F S32x128 .f32 := iblk2 X c 1 t

/-- The region's data: the arrays as found, each input's buffer left at its block, the outputs held by relation. -/
def dat2 (c : Dev nD) : Dat τ (Elt F) Unit ℕ (UU) ℕ cfg2 c where
  A w := X c (Proc.devRef .tc (Pipeline.arrRef spec2 w))
  after w t := match w with
    | ⟨0, _⟩ => (cfg2.win 0).fill (cfg2.grid.coords t) (fun _ => Classical.arbitrary _) (iblk2 X c 0 t)
    | ⟨1, _⟩ => iblk2 X c 1 t
    | ⟨2, _⟩ => Pipeline.Dat.unnamed (cfg := cfg2) 2 t
  Φ t := Pipeline.scopedRest (Ix := Unit) (Name := ℕ) (U := UU) (Lvl := ℕ) (Val := Elt F) spec2 c
  q _ := fullShare
  owed _ := 0

theorem A_eq2 (c : Dev nD) (w : Fin cfg2.W) : (dat2 X c).A w = X c (Proc.devRef .tc (Pipeline.arrRef spec2 w)) := by
  dsimp only [dat2]
theorem after2_0 (c : Dev nD) (t : Fin cfg2.N) : (dat2 X c).after 0 t = (cfg2.win 0).fill (cfg2.grid.coords t) (fun _ => Classical.arbitrary _) (iblk2 X c 0 t) := by dsimp only [dat2]
theorem cut2_0 (c : Dev nD) (t : Fin cfg2.N) : (cfg2.win 0).cut (cfg2.grid.coords t) ((dat2 X c).after 0 t) = iblk2 X c 0 t := by
  rw [after2_0]; exact (cfg2.win 0).cut_fill _ _ _
theorem keep2_0 (c : Dev nD) (t : Fin cfg2.N) (d) : (owns (c : Thread nD τ) (ms2_0 t) fullShare (blk2_0 X c t d) : sProp 𝕄)
    ⊢ iprop(∃ d, owns (c : Thread nD τ) (ms2_0 t) fullShare ((cfg2.win 0).fill (cfg2.grid.coords t) d ((cfg2.win 0).cut (cfg2.grid.coords t) ((dat2 X c).after 0 t)))) := by
  rw [cut2_0]; iintro H; iexists d; iexact H
theorem before2_0 (c : Dev nD) (t : Fin cfg2.N) (d) : (dat2 X c).before 0 t d = blk2_0 X c t d :=
  ((dat2 X c).before_fetched 0 t (fetch2_0 t) d).trans (by unfold Dat.fetched Dat.blockOf blk2_0 iblk2; rw [A_eq2])
theorem after2_1 (c : Dev nD) (t : Fin cfg2.N) : (dat2 X c).after 1 t = blk2_1 X c t := by dsimp only [dat2]
theorem before2_1 (c : Dev nD) (t : Fin cfg2.N) (d) : (dat2 X c).before 1 t d = blk2_1 X c t :=
  ((dat2 X c).before_in_eq_fetched 1 rfl (fun _ => rfl) (fun _ _ _ => rfl) (fun t => by rw [after2_1]; unfold Dat.blockOf blk2_1 iblk2; rw [A_eq2]; try rfl) t d).trans
    (by unfold Dat.fetched Dat.blockOf blk2_1 iblk2; rw [A_eq2]; try rfl)

/-- Which windows are held by relation. -/
def mk2 : Fin cfg2.W → Bool := fun | ⟨0, _⟩ => false | ⟨1, _⟩ => false | ⟨2, _⟩ => true

/-- What each output's buffer is left at. -/
def Rl2 (c : Dev nD) : (w : Fin cfg2.W) → Fin cfg2.N → ((cfg2.win w).block.Idx → Elt F (cfg2.win w).elt) → Prop := fun w t => match w with
    | ⟨0, _⟩ => fun Y => True
    | ⟨1, _⟩ => fun Y => True
    | ⟨2, _⟩ => fun Y => (∃ d, Y = k2_pay1 (blk2_0 X c t d) (lcol (blk2_1 X c t)))

/-- What the body is called with at point `t`, the windows one by one. -/
def bodyPre2 (c : Dev nD) (t : Fin cfg2.N) : sProp 𝕄 :=
  iprop((dat2 X c).Φ t.castSucc ∗ (dat2 X c).owesAt () t.castSucc
    ∗ (∃ d, owns (c : Thread nD τ) (ms2_0 t) fullShare ((dat2 X c).before 0 t d))
    ∗ (∃ d, owns (c : Thread nD τ) (ms2_1 t) fullShare ((dat2 X c).before 1 t d))
    ∗ (∃ Y, ⌜((dat2 X c).toRRel mk2 (Rl2 X c)).Finds 2 t Y⌝ ∗ owns (c : Thread nD τ) (ms2_2 t) fullShare Y))

/-- What it returns. -/
def bodyPost2 (c : Dev nD) (t : Fin cfg2.N) : sProp 𝕄 :=
  iprop((dat2 X c).Φ t.succ ∗ (dat2 X c).owesAt () t.succ
    ∗ (∃ d, owns (c : Thread nD τ) (ms2_0 t) fullShare ((cfg2.win 0).fill (cfg2.grid.coords t) d ((cfg2.win 0).cut (cfg2.grid.coords t) ((dat2 X c).after 0 t))))
    ∗ owns (c : Thread nD τ) (ms2_1 t) fullShare ((dat2 X c).after 1 t)
    ∗ (∃ Y, ⌜Rl2 X c 2 t Y⌝ ∗ owns (c : Thread nD τ) (ms2_2 t) fullShare Y))

set_option maxHeartbeats 4000000 in
/-- The body at any point. -/
theorem sound_body2 (c : Dev nD) (t : Fin cfg2.N) :
    bodyPre2 X c t ⊢ wp frame (wpE (defs₀ (F := F)) Variants.none c none) Set.univ (bodyAt2 t) (fun _ => bodyPost2 X c t) := by
  unfold bodyPre2 bodyPost2 bodyAt2
  simp only [before2_0, before2_1, after2_1]
  rw [show (dat2 X c).owesAt () t.succ = (dat2 X c).owesAt () t.castSucc from rfl]
  rw [show (dat2 X c).Φ t.succ = (dat2 X c).Φ t.castSucc from rfl]
  iintro ⟨HΦ, Ho, ⟨%d0, H0⟩, ⟨%d1, H1⟩, ⟨%Y2, %hY2, H2⟩⟩
  iapply (sub_point c (cfg2.grid.coords t) _ _ _ _ _ _ (blk2_0 X c t d0) (blk2_1 X c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iapply (keep2_0 X c t d0); iexact H0
  isplitl [H1]; · iexact H1
  iexists _; isplitr; swap; · iexact H2
  ipureintro; exact ⟨d0, rfl⟩

/-- The body table's row at point `t`'s slots. -/
theorem defs₀_row2 (t : Fin cfg2.N) :
    defs₀ (F := F) .tc cfg2.body (cfg2.bodyArgs t (cfg2.slots t)) = bodyAt2 t := by
  unfold defs₀; rw [Defs.onTc_tc]

/-- The body obligation of the region, the outputs by relation. -/
theorem body_obligation2 (c : Dev nD) : Pipeline.BodyObligationRel (dat2 X c) (defs₀ (F := F)) Variants.none () Set.univ mk2 (Rl2 X c) := fun t => by
  rw [bigSep_W2, bigSep_W2, defs₀_row2]
  exact triple_restated (sound_body2 X c t) rfl .rfl fun _ => .rfl

theorem hin2 (c : Dev nD) : (Pipeline.scopedRest (Ix := Unit) (Name := ℕ) (U := UU) (Lvl := ℕ) (Val := Elt F) spec2 c : sProp 𝕄) ⊢ (dat2 X c).Φ 0 := by
  rw [show (dat2 X c).Φ 0 = Pipeline.scopedRest (Ix := Unit) (Name := ℕ) (U := UU) (Lvl := ℕ) (Val := Elt F) spec2 c from rfl]

theorem hout2 (c : Dev nD) : (dat2 X c).Φ (Fin.last cfg2.N) ⊢ (Pipeline.scopedRest (Ix := Unit) (Name := ℕ) (U := UU) (Lvl := ℕ) (Val := Elt F) spec2 c : sProp 𝕄) := by
  rw [show (dat2 X c).Φ (Fin.last cfg2.N) = Pipeline.scopedRest (Ix := Unit) (Name := ℕ) (U := UU) (Lvl := ℕ) (Val := Elt F) spec2 c from rfl]

end Cert.KernelIdeal.Hand

end
-- ==== Proof.KI.Run.lean ====
/-
  The run of the whole program: the host stretches, then the three regions, each entered at whatever valuation the one before it left.
-/
module

public import proofs.«01_k».proof.Proof.Record
public import proofs.«01_k».proof.Proof.KI.Region0
public import proofs.«01_k».proof.Proof.KI.Region1
public import proofs.«01_k».proof.Proof.KI.Region2
public import proofs.«01_k».proof.Proof.Gen.KernelIdeal.Regions
public import Idealize.ShloMosaic.Lib.HostLoop.Plain
public import Idealize.ShloMosaic.Lib.HostLoop.Lifted

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

open Idealize.ShloMosaic.Pipeline (CSeg ucRefs)

abbrev 𝒱₀ : Variants := Variants.none
abbrev L₀ : GSem nD τ sig → Finset Unit := fun _ => ∅
abbrev lv₀ : GSem nD τ sig → Unit → ℕ := fun _ _ => 0
abbrev noLoops : Fin 0 → Prog (TpuEff nD τ sig (Elt F) (HostLoop.Sig (Pipeline.Sig Λ₀ (Fin 3) fun p => (pcfgs (F := F) p).Adm) 0) .tc) PUnit := fun j => j.elim0

/-- The three regions' data, each at the valuation the region is entered from. -/
def dats (X : Dev nD → Valuation τ sig (Elt F)) : (p : Fin 3) → (c : Dev nD) → Dat τ (Elt F) Unit ℕ UU ℕ (Pipeline.pin (pcfgs (F := F)) adm p) c := fun p c => match p with
  | ⟨0, _⟩ => dat0 X c
  | ⟨1, _⟩ => dat1 X c
  | ⟨2, _⟩ => dat2 X c

/-- Their windows held by relation, -/
def mks : (p : Fin 3) → Fin (Pipeline.pin (pcfgs (F := F)) adm p).W → Bool := fun p => match p with
  | ⟨0, _⟩ => mk0
  | ⟨1, _⟩ => mk1
  | ⟨2, _⟩ => mk2

/-- and the relations. -/
def Rls (X : Dev nD → Valuation τ sig (Elt F)) : (p : Fin 3) → (c : Dev nD) → (w : Fin (Pipeline.pin (pcfgs (F := F)) adm p).W) → Fin (Pipeline.pin (pcfgs (F := F)) adm p).N
    → (((Pipeline.pin (pcfgs (F := F)) adm p).win w).block.Idx → Elt F ((Pipeline.pin (pcfgs (F := F)) adm p).win w).elt) → Prop := fun p c => match p with
  | ⟨0, _⟩ => Rl0 X c
  | ⟨1, _⟩ => Rl1 X c
  | ⟨2, _⟩ => Rl2 X c

abbrev rds (X : Dev nD → Valuation τ sig (Elt F)) := Record.rels (pcfgs (F := F)) adm (dats X) mks (Rls X)

set_option backward.isDefEq.respectTransparency.types false in
/-- The first region's record. -/
def R0 (X : Dev nD → Valuation τ sig (Elt F)) : RDat.RegionSeg (pcfgs (F := F)) adm (rds X) () defs₀ 𝒱₀ L₀ lv₀ 0 :=
  Record.seg (pcfgs (F := F)) adm () 0 (dats X) mks (Rls X) defs₀ 𝒱₀ L₀ lv₀ launch0.toP rfl (body_obligation0 X) (fun _ _ => rfl) (fun _ => rfl)
    (fun _ w => by fin_cases w <;> rfl) X (fun c w => A_eq0 X c w) (hin0 X) (hout0 X)

set_option backward.isDefEq.respectTransparency.types false in
/-- The second region's record. -/
def R1 (X : Dev nD → Valuation τ sig (Elt F)) : RDat.RegionSeg (pcfgs (F := F)) adm (rds X) () defs₀ 𝒱₀ L₀ lv₀ 1 :=
  Record.seg (pcfgs (F := F)) adm () 1 (dats X) mks (Rls X) defs₀ 𝒱₀ L₀ lv₀ launch1.toP rfl (body_obligation1 X) (fun _ _ => rfl) (fun _ => rfl)
    (fun _ w => by fin_cases w <;> rfl) X (fun c w => A_eq1 X c w) (hin1 X) (hout1 X)

set_option backward.isDefEq.respectTransparency.types false in
/-- The third region's record. -/
def R2 (X : Dev nD → Valuation τ sig (Elt F)) : RDat.RegionSeg (pcfgs (F := F)) adm (rds X) () defs₀ 𝒱₀ L₀ lv₀ 2 :=
  Record.seg (pcfgs (F := F)) adm () 2 (dats X) mks (Rls X) defs₀ 𝒱₀ L₀ lv₀ launch2.toP rfl (body_obligation2 X) (fun _ _ => rfl) (fun _ => rfl)
    (fun _ w => by fin_cases w <;> rfl) X (fun c w => A_eq2 X c w) (hin2 X) (hout2 X)

variable (m : (ℓ : Loc nD τ sig) → Buf (Elt F) ℓ)

/-- What is known of the valuation each region is entered from, and of the last one. -/
def Sel0 (x : Dev nD → Valuation τ sig (Elt F)) (c : Dev nD) : Prop := x c = V6 m c
def Sel1 (x : Dev nD → Valuation τ sig (Elt F)) (c : Dev nD) : Prop := ∃ x0, Sel0 m x0 c ∧ Record.Leaves (pcfgs (F := F)) adm 0 (dats x0) mks (Rls x0) c (x0 c) (x c)
def Sel2 (x : Dev nD → Valuation τ sig (Elt F)) (c : Dev nD) : Prop := ∃ x1, Sel1 m x1 c ∧ Record.Leaves (pcfgs (F := F)) adm 1 (dats x1) mks (Rls x1) c (x1 c) (x c)
def Sel3 (c : Dev nD) (W : Valuation τ sig (Elt F)) : Prop := ∃ x2, Sel2 m x2 c ∧ Record.Leaves (pcfgs (F := F)) adm 2 (dats x2) mks (Rls x2) c (x2 c) W

/-- Each region's own copy of the algebra. -/
abbrev tk : Fin 3 → Pipeline.Ticket (Ix := Unit) (Name := ℕ) (U := UU) (Lvl := ℕ) (nD := nD) (τ := τ) (pcfgs (F := F)) adm :=
  fun j => { p := j, pdats := dats (fun c => V6 m c), EP := embAt j }

abbrev Rd (c : Dev nD) : sProp 𝕄 := iprop(∃ Wd, owes (c : Thread nD τ) (0 : CellTallies nD τ sig Unit) Wd)

/-- A host stretch as a segment. -/
abbrev hostSeg (ops : List (HloOp τ sig (Elt F))) (hs : ops.Forall fun op => op.bufs ⊆ StableHlo.tcRefs τ sig) (hf : ops.Forall fun op => op.fresh = ∅)
    (V : Dev nD → Valuation τ sig (Elt F)) : CSeg (pcfgs (F := F)) adm (defs₀ (F := F)) 𝒱₀ L₀ lv₀ noLoops (tk m) :=
  CSeg.ofOps _ _ _ _ _ _ _ _ (ucRefs τ sig) ops (fun op h => Pipeline.sub_ucRefs op ((List.forall_iff_forall_mem.mp hs) op h))
    (fun op h => (List.forall_iff_forall_mem.mp hf) op h) V Rd

abbrev segList : List (CSeg (pcfgs (F := F)) adm (defs₀ (F := F)) 𝒱₀ L₀ lv₀ noLoops (tk m)) :=
  [hostSeg m hostOps0 hostOps0_sub hostOps0_fresh (V0 m), hostSeg m hostOps0_1 hostOps0_1_sub hostOps0_1_fresh (V1 m),
   hostSeg m hostOps0_2 hostOps0_2_sub hostOps0_2_fresh (V2 m), hostSeg m hostOps0_3 hostOps0_3_sub hostOps0_3_fresh (V3 m),
   hostSeg m hostOps0_4 hostOps0_4_sub hostOps0_4_fresh (V4 m), hostSeg m hostOps0_5 hostOps0_5_sub hostOps0_5_fresh (V5 m),
   CSeg.regionFR (pcfgs (F := F)) adm () cellOf_inj defs₀ 𝒱₀ L₀ lv₀ noLoops (tk m) 0 rds R0 (Sel0 m),
   CSeg.regionFR (pcfgs (F := F)) adm () cellOf_inj defs₀ 𝒱₀ L₀ lv₀ noLoops (tk m) 1 rds R1 (Sel1 m),
   CSeg.regionFR (pcfgs (F := F)) adm () cellOf_inj defs₀ 𝒱₀ L₀ lv₀ noLoops (tk m) 2 rds R2 (Sel2 m)]

/-- The last state: the unscoped buffers at some valuation the program can leave. -/
abbrev Tₙ (c : Dev nD) : sProp 𝕄 := iprop(∃ W, ⌜Sel3 m c W⌝ ∗ StableHlo.held (c : Thread nD τ) (ucRefs τ sig) W)

/-- After the host stretches the first region is entered at the valuation they leave. -/
theorem link0 (c : Dev nD) : (iprop(StableHlo.held (c : Thread nD τ) (ucRefs τ sig) (V6 m c) ∗ Rd c) : sProp 𝕄)
    ⊢ iprop(∃ x, ⌜Sel0 m x c⌝ ∗ StableHlo.held (c : Thread nD τ) (ucRefs τ sig) (x c) ∗ ∃ Wd, owes (c : Thread nD τ) (0 : CellTallies nD τ sig Unit) Wd) := by
  iintro H
  iexists (fun c => V6 m c)
  isplitr; · ipureintro; exact rfl
  iexact H

/-- A region's leaving state is the next one's entry state, at the valuation it left. -/
theorem link (S S' : (Dev nD → Valuation τ sig (Elt F)) → Dev nD → Prop) (Lv : (Dev nD → Valuation τ sig (Elt F)) → Dev nD → Valuation τ sig (Elt F) → Prop)
    (c : Dev nD) (h : ∀ x x', S x c → Lv x c (x' c) → S' x' c) :
    (iprop(∃ x, ⌜S x c⌝ ∗ ∃ W', ⌜Lv x c W'⌝ ∗ StableHlo.held (c : Thread nD τ) (ucRefs τ sig) W' ∗ ∃ Wd, owes (c : Thread nD τ) (0 : CellTallies nD τ sig Unit) Wd) : sProp 𝕄)
    ⊢ iprop(∃ x, ⌜S' x c⌝ ∗ StableHlo.held (c : Thread nD τ) (ucRefs τ sig) (x c) ∗ ∃ Wd, owes (c : Thread nD τ) (0 : CellTallies nD τ sig Unit) Wd) := by
  iintro ⟨%x, %hx, %W', %hW, H⟩
  iexists (fun _ => W')
  isplitr; · ipureintro; exact h x _ hx hW
  iexact H

/-- The last region's leaving state is the run's last state. -/
theorem link_end (c : Dev nD) :
    (iprop(∃ x, ⌜Sel2 m x c⌝ ∗ ∃ W', ⌜Record.Leaves (pcfgs (F := F)) adm 2 (dats x) mks (Rls x) c (x c) W'⌝ ∗ StableHlo.held (c : Thread nD τ) (ucRefs τ sig) W' ∗ ∃ Wd, owes (c : Thread nD τ) (0 : CellTallies nD τ sig Unit) Wd) : sProp 𝕄)
    ⊢ iprop(Tₙ m c ∗ ∃ Wd, owes (c : Thread nD τ) (0 : CellTallies nD τ sig Unit) Wd) := by
  iintro ⟨%x, %hx, %W', %hW, Hh, HO⟩
  isplitl [Hh]
  · iexists W'
    isplitr; · ipureintro; exact ⟨x, hx, hW⟩
    iexact Hh
  iexact HO

/-- The program is the chain of its segments. -/
theorem main_eq (c : Dev nD) : HostLoop.liftProg (L := 0) (main (F := F) c) = CSeg.runL (segList m) := by
  rw [main_chain c, HostLoop.liftProg_chain]
  refine congrArg Pipeline.chain ?_
  refine congrArg₂ List.cons (HostLoop.liftProg_seq _) (congrArg₂ List.cons (HostLoop.liftProg_seq _) (congrArg₂ List.cons (HostLoop.liftProg_seq _)
    (congrArg₂ List.cons (HostLoop.liftProg_seq _) (congrArg₂ List.cons (HostLoop.liftProg_seq _) (congrArg₂ List.cons (HostLoop.liftProg_seq _) ?_)))))
  rfl

set_option maxHeartbeats 2000000 in
set_option backward.isDefEq.respectTransparency.types false in
/-- THE RUN, over the host-loop labels: every execution terminates with the buffers at a valuation the program can leave. -/
theorem run_lifted (ρ : Dev nD → PrngReg) : θ_run (HostLoop.defs (noLoops (F := F)) (Pipeline.defs pcfgs defs₀)) (onTc (τ := τ) fun d => HostLoop.liftProg (L := 0) (main (F := F) d)) ⟨m, fun _ => 0, ρ⟩
    (fun r => (∀ c : Dev nD, ∃ W, Sel3 m c W ∧ ∀ b ∈ ucRefs τ sig, r.2.mem (c, b) = W b) ∧ r.2.sem = fun _ => 0) :=
  Pipeline.θ_run_regions_loop_kit_sems (pcfgs (F := F)) adm cellOf_inj defs₀ 𝒱₀ L₀ lv₀ noLoops (tk m) m ρ (fun d => HostLoop.liftProg (L := 0) (main (F := F) d)) (segList m)
    (fun c Q => by rw [main_eq m c])
    ((List.pairwise_map (f := fun s : CSeg _ _ _ _ _ _ _ _ => s.T)).mp (show ([∅, ∅, ∅, ∅, ∅, ∅, {0}, {1}, {2}] : List (Finset (Fin 3))).Pairwise Disjoint from by decide))
    (O₀ := 0) (hL := fun _ _ => rfl) (G := fun _ => iprop(emp))
    (u₀ := ((fun _ => Rounds.initOf (Pipeline.cells (Pipeline.pin (pcfgs (F := F)) adm) cellOf_inj) (Pipeline.launchToks (Pipeline.pin (pcfgs (F := F)) adm) cellOf_inj)), 1))
    (hu₀ := by
      iintro Hu
      ihave H := (ownU_pair _ _) $$ Hu
      icases H with ⟨HP, -⟩
      ihave HP' := (own_iprod _) $$ HP
      imodintro
      isplitl [HP']; · iexact HP'
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Rd c)) (Tₙ := Tₙ m)
    (hch := ⟨fun _ => .rfl, fun _ => .rfl, fun _ => .rfl, fun _ => .rfl, fun _ => .rfl, fun _ => .rfl, fun c => link0 m c,
      fun c => link (Sel0 m) (Sel1 m) (fun x c W' => Record.Leaves (pcfgs (F := F)) adm 0 (dats x) mks (Rls x) c (x c) W') c (fun x x' h h' => ⟨x, h, h'⟩), fun c => link (Sel1 m) (Sel2 m) (fun x c W' => Record.Leaves (pcfgs (F := F)) adm 1 (dats x) mks (Rls x) c (x c) W') c (fun x x' h h' => ⟨x, h, h'⟩), fun c => link_end m c⟩)
    (hinit := by
      refine Pipeline.initEach L₀ lv₀ fun c => ?_
      rw [show unscopedBufs c (fun b => m ((c : Thread nD τ).loc b)) = StableHlo.held (c : Thread nD τ) (ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∃ W, Sel3 m c W ∧ ∀ b ∈ ucRefs τ sig, s.mem (((c : Thread nD τ)).1, b) = W b)
    (hfin := fun c s' => by
      unfold Tₙ StableHlo.held
      iintro ⟨⟨%W, %hW, Hh⟩, HSI⟩
      ihave Hr := (pointsTo_read_all (ucRefs τ sig) (fun b => (((c : Thread nD τ)).1, b)) W s') $$ [Hh HSI]
      · isplitl [Hh] <;> iassumption
      icases Hr with ⟨%h, HSI⟩
      imodintro
      isplitr; · ipureintro; exact ⟨W, hW, h⟩
      iexact HSI)
    (hQ := fun s h hz => ⟨h, funext fun g => hz g (.inr (regions_no_unscoped g.2))⟩)

/-- THE RUN of the program as printed. -/
theorem run_main (ρ : Dev nD → PrngReg) : θ_run defs (onTc (τ := τ) (main (F := F))) ⟨m, fun _ => 0, ρ⟩
    (fun r => (∀ c : Dev nD, ∃ W, Sel3 m c W ∧ ∀ b ∈ ucRefs τ sig, r.2.mem (c, b) = W b) ∧ r.2.sem = fun _ => 0) :=
  HostLoop.θ_run_of_lift noLoops (Pipeline.defs pcfgs defs₀) main _ _ (run_lifted m ρ)

end Cert.KernelIdeal.Hand

end
-- ==== Proof.KI.Frame.lean ====
/-
  The frame: the arguments end as they began.
-/
module

public import proofs.«01_k».proof.Proof.KI.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

open Idealize.ShloMosaic.Pipeline (ucRefs)

variable (m : (ℓ : Loc nD τ sig) → Buf (Elt F) ℓ)

/-- A reference no host operation writes and no region's output is on ends as launched. -/
theorem kept {c : Dev nD} {W : Valuation τ sig (Elt F)} (h : Sel3 m c W) (r : Ref sig .tc)
    (hr : r ∉ hostOps0_W ++ hostOps0_1_W ++ hostOps0_2_W ++ hostOps0_3_W ++ hostOps0_4_W ++ hostOps0_5_W)
    (h0 : ∀ w, Pipeline.arrRef cfg0.spec w = r → (cfg0.win w).isOut = false) (h1 : ∀ w, Pipeline.arrRef cfg1.spec w = r → (cfg1.win w).isOut = false)
    (h2 : ∀ w, Pipeline.arrRef cfg2.spec w = r → (cfg2.win w).isOut = false) : W (Proc.devRef .tc r) = m ((c : Thread nD τ).loc r) := by
  obtain ⟨x2, ⟨x1, ⟨x0, hx0, l0⟩, l1⟩, l2⟩ := h
  simp only [List.mem_append, not_or] at hr
  obtain ⟨⟨⟨⟨⟨r0, r1⟩, r2⟩, r3⟩, r4⟩, r5⟩ := hr
  have e2 := Record.Leaves.keep _ _ _ _ _ _ l2 (fun w => A_eq2 x2 c w) r h2
  have e1 := Record.Leaves.keep _ _ _ _ _ _ l1 (fun w => A_eq1 x1 c w) r h1
  have e0 := Record.Leaves.keep _ _ _ _ _ _ l0 (fun w => A_eq0 x0 c w) r h0
  rw [e2, e1, e0, hx0]
  exact (V6_of m c r r5).trans ((V5_of m c r r4).trans ((V4_of m c r r3).trans ((V3_of m c r r2).trans ((V2_of m c r r1).trans ((V1_of m c r r0).trans rfl)))))

/-- THE FRAME RUN: every execution ends with the nine arguments as launched, the result read off a valuation the program can leave, every semaphore at zero. -/
theorem run_frame (ρ : Dev nD → PrngReg) : θ_run defs (onTc (τ := τ) (main (F := F))) ⟨m, fun _ => 0, ρ⟩
    (fun r => (∀ c : Dev nD, (∃ W, Sel3 m c W ∧ r.2.mem ((c : Thread nD τ).loc main_v26) = W (Proc.devRef .tc main_v26))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
      ∧ r.2.sem = fun _ => 0) := by
  refine θ_run_mono (run_main m ρ) ?_
  rintro r ⟨h, hs⟩
  refine ⟨fun c => ?_, hs⟩
  obtain ⟨W, hW, hm⟩ := h c
  refine ⟨⟨W, hW, hm _ (Finset.mem_filter.mpr ⟨StableHlo.devRef_mem_tcRefs main_v26, fun h => by cases h⟩)⟩, ?_, ?_, ?_, ?_, ?_, ?_, ?_, ?_, ?_⟩
  · exact (hm _ (Finset.mem_filter.mpr ⟨StableHlo.devRef_mem_tcRefs main_arg0, by decide⟩)).trans (kept m hW main_arg0 (by decide) (by decide) (by decide) (by decide))
  · exact (hm _ (Finset.mem_filter.mpr ⟨StableHlo.devRef_mem_tcRefs main_arg1, by decide⟩)).trans (kept m hW main_arg1 (by decide) (by decide) (by decide) (by decide))
  · exact (hm _ (Finset.mem_filter.mpr ⟨StableHlo.devRef_mem_tcRefs main_arg2, by decide⟩)).trans (kept m hW main_arg2 (by decide) (by decide) (by decide) (by decide))
  · exact (hm _ (Finset.mem_filter.mpr ⟨StableHlo.devRef_mem_tcRefs main_arg3, by decide⟩)).trans (kept m hW main_arg3 (by decide) (by decide) (by decide) (by decide))
  · exact (hm _ (Finset.mem_filter.mpr ⟨StableHlo.devRef_mem_tcRefs main_arg4, by decide⟩)).trans (kept m hW main_arg4 (by decide) (by decide) (by decide) (by decide))
  · exact (hm _ (Finset.mem_filter.mpr ⟨StableHlo.devRef_mem_tcRefs main_arg5, by decide⟩)).trans (kept m hW main_arg5 (by decide) (by decide) (by decide) (by decide))
  · exact (hm _ (Finset.mem_filter.mpr ⟨StableHlo.devRef_mem_tcRefs main_arg6, by decide⟩)).trans (kept m hW main_arg6 (by decide) (by decide) (by decide) (by decide))
  · exact (hm _ (Finset.mem_filter.mpr ⟨StableHlo.devRef_mem_tcRefs main_arg7, by decide⟩)).trans (kept m hW main_arg7 (by decide) (by decide) (by decide) (by decide))
  · exact (hm _ (Finset.mem_filter.mpr ⟨StableHlo.devRef_mem_tcRefs main_arg8, by decide⟩)).trans (kept m hW main_arg8 (by decide) (by decide) (by decide) (by decide))

end Cert.KernelIdeal.Hand

end
-- ==== Proof.RefRun.lean ====
/-
  The reference's run: its operations as one line, every buffer at what that line leaves, its arguments as they began.
-/
module

public import proofs.«01_k».proof.Defs
public import proofs.«01_k».proof.Proof.Gen.ReferenceIdeal
public import Idealize.ShloMosaic.Lib.Claim

@[expose] public section

noncomputable section

namespace Cert.RefSide

open Idealize.ShloMosaic Idealize.ShloMosaic.TcCoe Idealize.SL.Sem
open Cert.ReferenceIdeal Cert.ReferenceIdeal.Gen

/-- A straight line of operations packed with the list read off it. -/
abbrev packed {ops : List (HloOp τ sig (Elt Ideal))} (h : ∀ d, StableHlo.IsSeq (main (F := Ideal) d) ops) : { ops : List (HloOp τ sig (Elt Ideal)) // ∀ d, StableHlo.IsSeq (main (F := Ideal) d) ops } := ⟨ops, h⟩

set_option maxHeartbeats 4000000 in
set_option maxRecDepth 20000 in
/-- The reference's operations, in order. -/
def line : { ops : List (HloOp τ sig (Elt Ideal)) // ∀ d, StableHlo.IsSeq (main (F := Ideal) d) ops } := by
  apply packed
  hlo_seq

/-- The operations. -/
abbrev ops : List (HloOp τ sig (Elt Ideal)) := line.1

set_option maxHeartbeats 4000000 in
set_option maxRecDepth 20000 in
/-- Every run of the reference ends with each buffer at what the line of operations leaves there, and no semaphore raised. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      (∀ (d : Dev nD) (b : Ref sig .tc), r.2.mem ((d.tc : Thread nD τ).loc b) = StableHlo.after ops (StableHlo.launchContents m d) (Proc.devRef .tc b)) ∧ r.2.sem = fun _ => 0 := by
  refine θ_run_mono (StableHlo.run_hlo _ _ line.2 (by decide) (by decide) ?_ ?_ m g) ?_
  · show List.Forall _ ops
    unfold ops line
    simp
  · show ∀ op ∈ ops, _
    unfold ops line
    intro _ h
    (repeat (cases h with | head => rfl | tail _ h => ?_)); exact nomatch h
  · intro r h
    refine ⟨h, funext fun s => ?_⟩
    rcases s with ⟨t, s | s⟩
    · exact s.elim0
    · exact s.elim0

end Cert.RefSide

end
-- ==== Proof.Mask.lean ====
/-
  The mask: the two programs draw the same modality for every feature.
-/
module

public import proofs.«01_k».proof.Proof.RefRun
public import proofs.«01_k».proof.Proof.Gen.KernelIdeal.Regions

@[expose] public section

noncomputable section

namespace Cert.RefSide

open Idealize.ShloMosaic Idealize.ShloMosaic.TcCoe Idealize.SL.Sem

set_option maxHeartbeats 40000000 in
set_option maxRecDepth 100000 in
/-- The one-hot mask of the reference is the kernel's. -/
theorem mask_eq (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD) :
    StableHlo.after ops V (Proc.devRef .tc Cert.ReferenceIdeal.main_v36) = Cert.KernelIdeal.Gen.V5 m c (Proc.devRef .tc Cert.KernelIdeal.main_v18) := by
  dsimp only [ops, line, packed]
  simp only [StableHlo.after_cons, StableHlo.after_nil]
  after_results_simp
  rfl

end Cert.RefSide

end
-- ==== Proof.Value.RefTerm.lean ====
/-
  The reference's result as one term over its arguments and the mask it draws.
-/
module

public import proofs.«01_k».proof.Proof.RefRun

@[expose] public section

noncomputable section

namespace Cert.RefSide

open Idealize.ShloMosaic Idealize.ShloMosaic.TcCoe Idealize.SL.Sem Cert.ReferenceIdeal Cert.ReferenceIdeal.Gen

/-- A modality's projection: the dot product with the weights plus the bias. -/
def PROJ (A : FVec Ideal S1x32x16384 .f32) (W : FVec Ideal S16384x256 .f32) (B : FVec Ideal S256 .f32) : FVec Ideal S32x256 .f32 :=
  addf (Host.dotGeneral dot_S32x16384_S16384x256_S32x256_1_0_0_1_n_n none (shapeCast S32x16384 A shapeCasts_S1x32x16384_S32x16384) W)
    (broadcastInDim S32x256 ![0, 1] bcast_S1x256_S32x256_0_1 (broadcastInDim S1x256 ![1] bcast_S256_S1x256_1 B))

/-- The embedding: the three projections, stacked, masked and summed. -/
def EMB (X : FVec Ideal S3x32x16384 .f32) (W0 : FVec Ideal S16384x256 .f32) (B0 : FVec Ideal S256 .f32) (W1 : FVec Ideal S16384x256 .f32) (B1 : FVec Ideal S256 .f32)
    (W2 : FVec Ideal S16384x256 .f32) (B2 : FVec Ideal S256 .f32) (mask : FVec Ideal S32x256x3 .f32) : FVec Ideal S32x256 .f32 :=
  Host.reduceAdd (mulf (concatenate S32x256x3 2
      [⟨S32x256x1, broadcastInDim S32x256x1 ![0, 1] bcast_S32x256_S32x256x1_0_1 (PROJ (extractStridedSlice S1x32x16384 ![0, 0, 0] X slices_S3x32x16384_S1x32x16384_0_0_0) W0 B0)⟩,
       ⟨S32x256x1, broadcastInDim S32x256x1 ![0, 1] bcast_S32x256_S32x256x1_0_1 (PROJ (extractStridedSlice S1x32x16384 ![1, 0, 0] X slices_S3x32x16384_S1x32x16384_1_0_0) W1 B1)⟩,
       ⟨S32x256x1, broadcastInDim S32x256x1 ![0, 1] bcast_S32x256_S32x256x1_0_1 (PROJ (extractStridedSlice S1x32x16384 ![2, 0, 0] X slices_S3x32x16384_S1x32x16384_2_0_0) W2 B2)⟩]
      concatenates_S32x256x1_S32x256x1_S32x256x1_S32x256x3_d2) mask)
    (constant (F := Ideal) S_ .f32 0x00000000#32) reducesTo_S32x256x3_S32x256_d2 h_S_

/-- The logits. -/
def LOGITS (E : FVec Ideal S32x256 .f32) (W : FVec Ideal S256x100000 .f32) (B : FVec Ideal S100000 .f32) : FVec Ideal S32x100000 .f32 :=
  addf (Host.dotGeneral dot_S32x256_S256x100000_S32x100000_1_0_0_1_n_n none E W)
    (broadcastInDim S32x100000 ![0, 1] bcast_S1x100000_S32x100000_0_1 (broadcastInDim S1x100000 ![1] bcast_S100000_S1x100000_1 B))

/-- The largest logit of each row. -/
def ROWMAX (L : FVec Ideal S32x100000 .f32) : FVec Ideal S32 .f32 :=
  Host.reduce (FloatOps.maximumf (F := Ideal) (φ := .f32)) L (constant (F := Ideal) S_ .f32 0xFF800000#32) reducesTo_S32x100000_S32_d1 h_S_

/-- The largest logit of each row, taken with minus infinity once more. -/
def MAXED (L : FVec Ideal S32x100000 .f32) : FVec Ideal S32 .f32 :=
  maximumf (broadcastInDim S32 ![] bcast_S_S32 (constant (F := Ideal) S_ .f32 0xFF800000#32)) (ROWMAX L)

/-- The logits less the largest of their row. -/
def SHIFTED (L : FVec Ideal S32x100000 .f32) : FVec Ideal S32x100000 .f32 :=
  subf L (broadcastInDim S32x100000 ![0, 1] bcast_S32x1_S32x100000_0_1 (broadcastInDim S32x1 ![0] bcast_S32_S32x1_0 (MAXED L)))

/-- The logarithm of the softmax. -/
def LSM (L : FVec Ideal S32x100000 .f32) : FVec Ideal S32x100000 .f32 :=
  subf (SHIFTED L) (broadcastInDim S32x100000 ![0, 1] bcast_S32x1_S32x100000_0_1 (Host.log (broadcastInDim S32x1 ![0] bcast_S32_S32x1_0
    (Host.reduceAdd (Host.exp (SHIFTED L)) (constant (F := Ideal) S_ .f32 0x00000000#32) reducesTo_S32x100000_S32_d1 h_S_))))

/-- A buffer of the result's type, read as the array it holds. -/
theorem toBuf_v47 (p q r) (v : BufTy.Contents (Elt Ideal) ⟨S32x100000, .f32⟩) : (StableHlo.TRef.of (T := ⟨S32x100000, .f32⟩) main_v47 p q r).toBuf v = v := rfl

set_option maxHeartbeats 40000000 in
set_option maxRecDepth 100000 in
/-- The embedding the line leaves. -/
theorem value_emb (V : Valuation τ sig (Elt Ideal)) :
    StableHlo.after ops V (Proc.devRef .tc main_v42) = EMB (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (StableHlo.after ops V (Proc.devRef .tc main_v36)) := by
  dsimp only [ops, line, packed]
  simp only [StableHlo.after_cons, StableHlo.after_nil]
  after_results_simp
  rfl

set_option maxHeartbeats 40000000 in
set_option maxRecDepth 100000 in
/-- The logits the line leaves. -/
theorem value_logits (V : Valuation τ sig (Elt Ideal)) :
    StableHlo.after ops V (Proc.devRef .tc main_v46) = LOGITS (StableHlo.after ops V (Proc.devRef .tc main_v42)) (V (Proc.devRef .tc main_arg7)) (V (Proc.devRef .tc main_arg8)) := by
  dsimp only [ops, line, packed]
  simp only [StableHlo.after_cons, StableHlo.after_nil]
  after_results_simp
  rfl

set_option maxHeartbeats 40000000 in
set_option maxRecDepth 100000 in
/-- The result the line leaves. -/
theorem value_lsm (V : Valuation τ sig (Elt Ideal)) :
    StableHlo.after ops V (Proc.devRef .tc main_v47) = LSM (StableHlo.after ops V (Proc.devRef .tc main_v46)) := by
  dsimp only [ops, line, packed]
  simp only [StableHlo.after_cons, StableHlo.after_nil]
  after_results_simp
  simp only [StableHlo.TRef.ofBuf_toBuf]
  unfold LSM SHIFTED MAXED ROWMAX
  refine (toBuf_v47 _ _ _ _).trans ?_
  rfl

set_option maxHeartbeats 40000000 in
set_option maxRecDepth 100000 in
/-- The reference leaves its arguments as it found them. -/
theorem args (V : Valuation τ sig (Elt Ideal)) :
    StableHlo.after ops V (Proc.devRef .tc main_arg0) = V (Proc.devRef .tc main_arg0) ∧ StableHlo.after ops V (Proc.devRef .tc main_arg1) = V (Proc.devRef .tc main_arg1)
    ∧ StableHlo.after ops V (Proc.devRef .tc main_arg2) = V (Proc.devRef .tc main_arg2) ∧ StableHlo.after ops V (Proc.devRef .tc main_arg3) = V (Proc.devRef .tc main_arg3)
    ∧ StableHlo.after ops V (Proc.devRef .tc main_arg4) = V (Proc.devRef .tc main_arg4) ∧ StableHlo.after ops V (Proc.devRef .tc main_arg5) = V (Proc.devRef .tc main_arg5)
    ∧ StableHlo.after ops V (Proc.devRef .tc main_arg6) = V (Proc.devRef .tc main_arg6) ∧ StableHlo.after ops V (Proc.devRef .tc main_arg7) = V (Proc.devRef .tc main_arg7)
    ∧ StableHlo.after ops V (Proc.devRef .tc main_arg8) = V (Proc.devRef .tc main_arg8) := by
  dsimp only [ops, line, packed]
  simp only [StableHlo.after_cons, StableHlo.after_nil]
  after_results_simp
  exact ⟨trivial, trivial, trivial, trivial, trivial, trivial, trivial, trivial, trivial⟩

end Cert.RefSide

end
-- ==== Proof.Value.Reals.lean ====
/-
  Sums, maxima and exponentials of real entries among the extended reals: the logarithm of a sum of exponentials does not depend on
  the number the exponents are taken from, and a tiled sum is the whole one.
-/
module

public import Idealize.ShloMosaic.Lib.Pipeline.ValueKit
public import Mathlib.Analysis.SpecialFunctions.Log.Basic

@[expose] public section

noncomputable section

namespace Cert.Reals

open Idealize.ShloMosaic

/-- A finite sum of reals, read among the extended reals. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A sum over `Fin n` of a function of the position is the sum over the range. -/
theorem coe_sum_fin (n : ℕ) (f : ℕ → ℝ) : (∑ i : Fin n, (f i : EReal)) = ((∑ i ∈ Finset.range n, f i : ℝ) : EReal) := by
  rw [← Fin.sum_univ_eq_sum_range, coe_sum]

/-- The largest of finitely many entries, none plus infinity and one of them real, is real. -/
theorem fold_max_real {ι : Type*} [Fintype ι] (f : ι → EReal) (hf : ∀ i, f i ≠ ⊤) (i₀ : ι) (h₀ : f i₀ ≠ ⊥) :
    ∃ μ : ℝ, Finset.univ.fold max (⊥ : EReal) f = μ := by
  have e : Finset.univ.fold max (⊥ : EReal) f = Finset.univ.sup f := rfl
  rw [e]
  have h1 : Finset.univ.sup f ≠ ⊤ := ne_of_lt ((Finset.sup_lt_iff bot_lt_top).mpr fun i _ => lt_top_iff_ne_top.mpr (hf i))
  have h2 : Finset.univ.sup f ≠ ⊥ := fun h => h₀ (le_bot_iff.mp (h ▸ Finset.le_sup (f := f) (Finset.mem_univ i₀)))
  exact ⟨_, (EReal.coe_toReal h1 h2).symm⟩

/-- The exponentials of the first `N` entries of a row of 100000, taken from `μ`. -/
def part (l : ℕ → ℝ) (N : ℕ) (μ : ℝ) : ℝ := ∑ j ∈ Finset.range N, if j < 100000 then Real.exp (l j - μ) else 0

/-- An entry of a tile of the row: minus infinity past the row's end. -/
def entry (l : ℕ → ℝ) (j : ℕ) : EReal := if j < 100000 then (l j : EReal) else ⊥

theorem entry_ne_top (l : ℕ → ℝ) (j : ℕ) : entry l j ≠ ⊤ := by
  unfold entry; split
  · exact EReal.coe_ne_top _
  · exact bot_ne_top

theorem entry_ne_bot (l : ℕ → ℝ) (j : ℕ) (h : j < 100000) : entry l j ≠ ⊥ := by
  unfold entry; rw [if_pos h]; exact EReal.coe_ne_bot _

/-- A tile's exponentials add up to a real number: entries past the row's end add nothing. -/
theorem tile_sum (l : ℕ → ℝ) (o : ℕ) (n : ℕ) (μ : ℝ) :
    (∑ k : Fin n, Ideal.exp (entry l (o + k) - (μ : EReal))) = ((∑ k ∈ Finset.range n, if o + k < 100000 then Real.exp (l (o + k) - μ) else 0 : ℝ) : EReal) := by
  rw [← coe_sum_fin n fun k => if o + k < 100000 then Real.exp (l (o + k) - μ) else 0]
  refine Finset.sum_congr rfl fun k _ => ?_
  unfold entry
  by_cases h : o + (k : ℕ) < 100000
  · rw [if_pos h, if_pos h, ← EReal.coe_sub, Ideal.exp_coe]
  · rw [if_neg h, if_neg h, EReal.bot_sub]; rfl

/-- The running sum moved from one number to another. -/
theorem part_shift (l : ℕ → ℝ) (N : ℕ) (μ ν : ℝ) : part l N μ * Real.exp (μ - ν) = part l N ν := by
  unfold part
  rw [Finset.sum_mul]
  refine Finset.sum_congr rfl fun j _ => ?_
  split
  · rw [← Real.exp_add]; congr 1; ring
  · rw [zero_mul]

/-- The running sum taken one tile further. -/
theorem part_add (l : ℕ → ℝ) (N n : ℕ) (μ : ℝ) :
    part l (N + n) μ = part l N μ + ∑ k ∈ Finset.range n, if N + k < 100000 then Real.exp (l (N + k) - μ) else 0 := by
  unfold part; rw [Finset.sum_range_add]

/-- Past the row's end nothing is added. -/
theorem part_whole (l : ℕ → ℝ) (N : ℕ) (h : 100000 ≤ N) (μ : ℝ) : part l N μ = ∑ j ∈ Finset.range 100000, Real.exp (l j - μ) := by
  obtain ⟨k, rfl⟩ := Nat.exists_eq_add_of_le h
  rw [part_add]
  have e : (∑ i ∈ Finset.range k, if 100000 + i < 100000 then Real.exp (l (100000 + i) - μ) else 0) = 0 :=
    Finset.sum_eq_zero fun i _ => if_neg (by omega)
  rw [e, add_zero]
  exact Finset.sum_congr rfl fun j hj => if_pos (Finset.mem_range.mp hj)

/-- The row's normalizer: the logarithm of the sum of the exponentials of all its entries. -/
def lse (l : ℕ → ℝ) : ℝ := Real.log (∑ j ∈ Finset.range 100000, Real.exp (l j))

theorem sum_exp_pos (l : ℕ → ℝ) (μ : ℝ) : 0 < ∑ j ∈ Finset.range 100000, Real.exp (l j - μ) :=
  Finset.sum_pos (fun _ _ => Real.exp_pos _) ⟨0, Finset.mem_range.mpr (by norm_num)⟩

/-- The normalizer does not depend on the number the exponents are taken from. -/
theorem lse_shift (l : ℕ → ℝ) (μ : ℝ) : μ + Real.log (∑ j ∈ Finset.range 100000, Real.exp (l j - μ)) = lse l := by
  have e : ∑ j ∈ Finset.range 100000, Real.exp (l j) = Real.exp μ * ∑ j ∈ Finset.range 100000, Real.exp (l j - μ) := by
    rw [Finset.mul_sum]
    exact Finset.sum_congr rfl fun j _ => by rw [← Real.exp_add]; congr 1; ring
  rw [lse, e, Real.log_mul (Real.exp_ne_zero _) (sum_exp_pos l μ).ne', Real.log_exp]

/-- The logarithm of the row's sum, read among the extended reals. -/
theorem log_sum (l : ℕ → ℝ) (μ : ℝ) : Ideal.log ((∑ j ∈ Finset.range 100000, Real.exp (l j - μ) : ℝ) : EReal)
    = (Real.log (∑ j ∈ Finset.range 100000, Real.exp (l j - μ)) : ℝ) := by
  rw [Ideal.log_coe, if_neg (not_le.mpr (sum_exp_pos l μ))]

/-- A dot product of real vectors, read among the extended reals. -/
theorem dot_coe (n : ℕ) (a w : Fin n → EReal) (f : ℕ → ℝ) (h : ∀ k : Fin n, a k * w k = (f k : EReal)) :
    (∑ k : Fin n, a k * w k) = ((∑ k ∈ Finset.range n, f k : ℝ) : EReal) := by
  rw [← coe_sum_fin]; exact Finset.sum_congr rfl fun k _ => h k

/-- An entry of the embedding after `N` of the inner index: the biases under their masks, and the dot products so far under theirs. -/
def embr (M B : Fin 3 → ℝ) (f : Fin 3 → ℕ → ℝ) (N : ℕ) : ℝ :=
  M 0 * B 0 + M 1 * B 1 + M 2 * B 2 + (M 0 * (∑ k ∈ Finset.range N, f 0 k) + M 1 * (∑ k ∈ Finset.range N, f 1 k) + M 2 * (∑ k ∈ Finset.range N, f 2 k))

theorem embr_zero (M B : Fin 3 → ℝ) (f : Fin 3 → ℕ → ℝ) : embr M B f 0 = M 0 * B 0 + M 1 * B 1 + M 2 * B 2 := by
  unfold embr; simp only [Finset.range_zero, Finset.sum_empty]; ring

/-- The embedding taken `n` further. -/
theorem embr_add (M B : Fin 3 → ℝ) (f : Fin 3 → ℕ → ℝ) (N n : ℕ) : embr M B f (N + n) = embr M B f N + M 0 * (∑ k ∈ Finset.range n, f 0 (N + k))
    + M 1 * (∑ k ∈ Finset.range n, f 1 (N + k)) + M 2 * (∑ k ∈ Finset.range n, f 2 (N + k)) := by
  unfold embr; rw [Finset.sum_range_add, Finset.sum_range_add, Finset.sum_range_add]; ring

/-- The embedding as the sum of the masked projections. -/
theorem embr_eq (M B : Fin 3 → ℝ) (f : Fin 3 → ℕ → ℝ) (N : ℕ) : embr M B f N
    = ((∑ k ∈ Finset.range N, f 0 k) + B 0) * M 0 + ((∑ k ∈ Finset.range N, f 1 k) + B 1) * M 1 + ((∑ k ∈ Finset.range N, f 2 k) + B 2) * M 2 := by
  unfold embr; ring

end Cert.Reals

end
-- ==== Proof.Value.RefVal.lean ====
/-
  What the reference computes where every entry is a real number.
-/
module

public import proofs.«01_k».proof.Proof.Value.RefTerm
public import proofs.«01_k».proof.Proof.Value.Reals
public import Idealize.ShloMosaic.Lib.Pipeline.ValueKit

@[expose] public section

noncomputable section

namespace Cert.RefSide

open Idealize.ShloMosaic Idealize.ShloMosaic.TcCoe Idealize.SL.Sem Cert.ReferenceIdeal Cert.ReferenceIdeal.Gen

/-- The pattern of minus infinity is the least extended real. -/
theorem ofBits_least : Ideal.ofBits .f32 4286578688#32 = (⊥ : EReal) := by simp [Ideal.ofBits, Ideal.ieee]

/-- The largest entry along an axis is a real number where every entry is. -/
theorem hostMax_real {s t : Shape} {a : Fin s.rank} (L : FVec Ideal s .f32) (hL : ∀ i, ∃ r : ℝ, L i = (r : EReal)) (h' : s.ReducesTo [a] t) (h : s.Reduces [a] t) (hu : 0 < S_.numel)
    (hs : 0 < s.size a) (j : t.Idx) :
    ∃ μ : ℝ, Host.reduce (FloatOps.maximumf (F := Ideal) (φ := .f32)) L (constant (F := Ideal) S_ .f32 0xFF800000#32) h' hu j = (μ : EReal) := by
  have e : Host.reduce (FloatOps.maximumf (F := Ideal) (φ := .f32)) L (constant (F := Ideal) S_ .f32 0xFF800000#32) h' hu j
      = (Finset.univ : Finset (Fin (s.size a))).fold max (Ideal.ofBits .f32 4286578688#32 : EReal) (L ∘ h.lift j) :=
    Host.reduce_eq_fold_single (α := EReal) max L (constant (F := Ideal) S_ .f32 0xFF800000#32) h' h hu j
  rw [e, ofBits_least]
  refine Reals.fold_max_real _ (fun k => ?_) ⟨0, hs⟩ ?_
  · obtain ⟨r, hr⟩ := hL (h.lift j k); exact fun q => EReal.coe_ne_top r (hr.symm.trans q)
  · obtain ⟨r, hr⟩ := hL (h.lift j ⟨0, hs⟩); exact fun q => EReal.coe_ne_bot r (hr.symm.trans q)

/-- An index into the logits over its two coordinates. -/
theorem real_logit (L : FVec Ideal S32x100000 .f32) (l : Fin 32 → ℕ → ℝ) (hL : ∀ (b : Fin 32) (n : Fin 100000), L (ix2 b n) = (l b n.val : EReal)) (i : S32x100000.Idx) :
    ∃ r : ℝ, L i = (r : EReal) :=
  ⟨l (i 0) (i 1).val, (congrArg L (eq_ix2 (n0 := 32) (n1 := 100000) i)).trans (hL (i 0) (i 1))⟩

/-- An entry of the shifted logits. -/
theorem shifted_at (L : FVec Ideal S32x100000 .f32) (b : Fin 32) (n : Fin 100000) :
    SHIFTED L (ix2 b n) = L (ix2 b n) - MAXED L (ix1 b) := by
  pointwise [SHIFTED]

/-- A maximum taken with a least entry is the maximum. -/
theorem max_least {s : Shape} (u x : FVec Ideal s .f32) (i : s.Idx) (h : u i = (⊥ : EReal)) : maximumf u x i = x i :=
  (congrArg (fun y : EReal => max y (x i)) h).trans (max_eq_right bot_le)

theorem maxed_at (L : FVec Ideal S32x100000 .f32) (b : Fin 32) : MAXED L (ix1 b) = ROWMAX L (ix1 b) :=
  max_least _ _ _ ofBits_least

/-- An entry of the result. -/
theorem lsm_at (L : FVec Ideal S32x100000 .f32) (b : Fin 32) (n : Fin 100000) :
    LSM L (ix2 b n) = SHIFTED L (ix2 b n) - Ideal.log (∑ x, Ideal.exp (SHIFTED L (ix2 b x))) := by
  pointwise [LSM]

/-- The logarithm of the softmax of real logits: each less its row's normalizer. -/
theorem lsm_real (L : FVec Ideal S32x100000 .f32) (l : Fin 32 → ℕ → ℝ) (hL : ∀ (b : Fin 32) (n : Fin 100000), L (ix2 b n) = (l b n.val : EReal)) (b : Fin 32) (n : Fin 100000) :
    LSM L (ix2 b n) = ((l b n.val - Reals.lse (l b) : ℝ) : EReal) := by
  obtain ⟨μ, hμ⟩ := hostMax_real L (real_logit L l hL) reducesTo_S32x100000_S32_d1 (by decide) h_S_ (by decide) (ix1 b)
  have es (k : Fin 100000) : SHIFTED L (ix2 b k) = ((l b k.val - μ : ℝ) : EReal) := by
    rw [shifted_at, hL, maxed_at, EReal.coe_sub]
    exact congrArg (fun x : EReal => (l b k.val : EReal) - x) hμ
  rw [lsm_at, es]
  have e : (∑ x : Fin 100000, Ideal.exp (SHIFTED L (ix2 b x))) = ((∑ j ∈ Finset.range 100000, Real.exp (l b j - μ) : ℝ) : EReal) := by
    rw [← Reals.coe_sum_fin 100000 fun j => Real.exp (l b j - μ)]
    exact Finset.sum_congr rfl fun x _ => by rw [es, Ideal.exp_coe]
  rw [e, Reals.log_sum, ← EReal.coe_sub]
  refine congrArg _ ?_
  rw [← Reals.lse_shift (l b) μ]; ring

/-- An entry of the logits. -/
theorem logits_at (E : FVec Ideal S32x256 .f32) (W : FVec Ideal S256x100000 .f32) (B : FVec Ideal S100000 .f32) (b : Fin 32) (n : Fin 100000) :
    LOGITS E W B (ix2 b n) = (∑ x, E (ix2 b x) * W (ix2 x n)) + B (ix1 n) := by
  pointwise [LOGITS]

/-- An entry of a projection. -/
theorem proj0_at (X : FVec Ideal S3x32x16384 .f32) (W : FVec Ideal S16384x256 .f32) (B : FVec Ideal S256 .f32) (b : Fin 32) (e : Fin 256) :
    PROJ (extractStridedSlice S1x32x16384 ![0, 0, 0] X slices_S3x32x16384_S1x32x16384_0_0_0) W B (ix2 b e) = (∑ x, X (ix3 0 b x) * W (ix2 x e)) + B (ix1 e) := by
  pointwise [PROJ]

/-- An entry of a projection. -/
theorem proj1_at (X : FVec Ideal S3x32x16384 .f32) (W : FVec Ideal S16384x256 .f32) (B : FVec Ideal S256 .f32) (b : Fin 32) (e : Fin 256) :
    PROJ (extractStridedSlice S1x32x16384 ![1, 0, 0] X slices_S3x32x16384_S1x32x16384_1_0_0) W B (ix2 b e) = (∑ x, X (ix3 1 b x) * W (ix2 x e)) + B (ix1 e) := by
  pointwise [PROJ]

/-- An entry of a projection. -/
theorem proj2_at (X : FVec Ideal S3x32x16384 .f32) (W : FVec Ideal S16384x256 .f32) (B : FVec Ideal S256 .f32) (b : Fin 32) (e : Fin 256) :
    PROJ (extractStridedSlice S1x32x16384 ![2, 0, 0] X slices_S3x32x16384_S1x32x16384_2_0_0) W B (ix2 b e) = (∑ x, X (ix3 2 b x) * W (ix2 x e)) + B (ix1 e) := by
  pointwise [PROJ]

section Emb

variable (X : FVec Ideal S3x32x16384 .f32) (W0 : FVec Ideal S16384x256 .f32) (B0 : FVec Ideal S256 .f32) (W1 : FVec Ideal S16384x256 .f32) (B1 : FVec Ideal S256 .f32)
  (W2 : FVec Ideal S16384x256 .f32) (B2 : FVec Ideal S256 .f32) (mask : FVec Ideal S32x256x3 .f32) (b : Fin 32) (e : Fin 256)

/-- An entry of the embedding over the projections. -/
theorem emb_at : EMB X W0 B0 W1 B1 W2 B2 mask (ix2 b e)
    = PROJ (extractStridedSlice S1x32x16384 ![0, 0, 0] X slices_S3x32x16384_S1x32x16384_0_0_0) W0 B0 (ix2 b e) * mask (ix3 b e 0)
      + PROJ (extractStridedSlice S1x32x16384 ![1, 0, 0] X slices_S3x32x16384_S1x32x16384_1_0_0) W1 B1 (ix2 b e) * mask (ix3 b e 1)
      + PROJ (extractStridedSlice S1x32x16384 ![2, 0, 0] X slices_S3x32x16384_S1x32x16384_2_0_0) W2 B2 (ix2 b e) * mask (ix3 b e 2) := by
  pointwise [EMB]
  exact Fin.sum_univ_three _

/-- An entry of the embedding where every entry is a real number. -/
theorem emb_real (M B : Fin 3 → ℝ) (f : Fin 3 → ℕ → ℝ) (hM : ∀ j, mask (ix3 b e j) = (M j : EReal))
    (hB0 : B0 (ix1 e) = (B 0 : EReal)) (hB1 : B1 (ix1 e) = (B 1 : EReal)) (hB2 : B2 (ix1 e) = (B 2 : EReal))
    (h0 : ∀ k : Fin 16384, (X (ix3 0 b k) : EReal) * W0 (ix2 k e) = (f 0 k.val : EReal)) (h1 : ∀ k : Fin 16384, (X (ix3 1 b k) : EReal) * W1 (ix2 k e) = (f 1 k.val : EReal))
    (h2 : ∀ k : Fin 16384, (X (ix3 2 b k) : EReal) * W2 (ix2 k e) = (f 2 k.val : EReal)) :
    EMB X W0 B0 W1 B1 W2 B2 mask (ix2 b e) = (Reals.embr M B f 16384 : EReal) := by
  rw [emb_at, proj0_at, proj1_at, proj2_at, hM, hM, hM, hB0, hB1, hB2]
  have d0 := Reals.dot_coe 16384 (fun k => X (ix3 0 b k)) (fun k => W0 (ix2 k e)) (f 0) h0
  have d1 := Reals.dot_coe 16384 (fun k => X (ix3 1 b k)) (fun k => W1 (ix2 k e)) (f 1) h1
  have d2 := Reals.dot_coe 16384 (fun k => X (ix3 2 b k)) (fun k => W2 (ix2 k e)) (f 2) h2
  rw [Reals.embr_eq]
  refine (Ideal.add_congr (Ideal.add_congr (Ideal.mul_congr (Ideal.add_congr d0 rfl) rfl) (Ideal.mul_congr (Ideal.add_congr d1 rfl) rfl)) (Ideal.mul_congr (Ideal.add_congr d2 rfl) rfl)).trans ?_
  rw [← EReal.coe_add, ← EReal.coe_add, ← EReal.coe_add, ← EReal.coe_mul, ← EReal.coe_mul, ← EReal.coe_mul, ← EReal.coe_add, ← EReal.coe_add]

end Emb

end Cert.RefSide

end
-- ==== Proof.Value.Pay.lean ====
/-
  What each stored block of the three kernels is, entry by entry, over the extended reals.
-/
module

public import proofs.«01_k».proof.Proof.KI.Body2
public import proofs.«01_k».proof.Proof.KI.Body1
public import proofs.«01_k».proof.Proof.KI.Body0
public import Idealize.ShloMosaic.Lib.Pipeline.ValueKit
public import Idealize.ShloMosaic.Lib.WordCmp

@[expose] public section

set_option maxRecDepth 16384

noncomputable section

namespace Cert.KernelIdeal.Hand

open Idealize.ShloMosaic Idealize.ShloMosaic.TcCoe Idealize.SL.Sem Cert.KernelIdeal Cert.KernelIdeal.Gen

/-- The start of the embedding, entry by entry: the three biases, each under its mask. -/
theorem embInit_at (x4 x5 x6 : Vec Ideal S1x256 .f32) (x7 : Vec Ideal S3x32x256 .f32) (b : Fin 32) (e : Fin 256) :
    embInit (F := Ideal) x4 x5 x6 x7 (ix2 b e) = (x7 (ix3 0 b e) * x4 (ix2 0 e) + x7 (ix3 1 b e) * x5 (ix2 0 e) + x7 (ix3 2 b e) * x6 (ix2 0 e) : EReal) := by
  pointwise [embInit, k0_pay2, mrow0, mrow1, mrow2]
  try rfl

/-- One step of the embedding, entry by entry. -/
theorem embStep_at (x0 : Vec Ideal S3x32x2048 .f32) (x1 x2 x3 : Vec Ideal S2048x256 .f32) (x7 : Vec Ideal S3x32x256 .f32) (acc : Vec Ideal S32x256 .f32) (b : Fin 32) (e : Fin 256) :
    embStep (F := Ideal) x0 x1 x2 x3 x7 acc (ix2 b e) = (acc (ix2 b e) + x7 (ix3 0 b e) * (∑ k : Fin 2048, x0 (ix3 0 b k) * x1 (ix2 k e) : EReal)
      + x7 (ix3 1 b e) * (∑ k : Fin 2048, x0 (ix3 1 b k) * x2 (ix2 k e) : EReal) + x7 (ix3 2 b e) * (∑ k : Fin 2048, x0 (ix3 2 b k) * x3 (ix2 k e) : EReal) : EReal) := by
  pointwise [embStep, k0_pay1, k0_pay3, k0_pay4, mrow0, mrow1, mrow2, xrow0, xrow1, xrow2]
  try rfl

/-- The pattern of minus infinity is the least extended real. -/
theorem ofBits_bot : Ideal.ofBits .f32 4286578688#32 = (⊥ : EReal) := by
  simp [Ideal.ofBits, Ideal.ieee]

/-- The kernel's test that a tile's column lies inside the array. -/
theorem inside (i n : ℕ) (hi : i < 13) (hn : n < 8192) :
    IntOp.cmpi CmpIPredicate.slt (BitVec.ofNat 32 n) (Scalar.subi (100000#32) (Scalar.muli (BitVec.ofNat 32 i) 8192#32)) = if 8192 * i + n < 100000 then 1#1 else 0#1 := by
  have h1 : Scalar.subi (100000#32) (Scalar.muli (BitVec.ofNat 32 i) 8192#32) = BitVec.ofNat 32 (100000 - 8192 * i) := by
    interval_cases i <;> rfl
  rw [h1, Idealize.ShloMosaic.WordCmp.cmpi_slt_ofNat (by norm_num; omega) (by norm_num; omega)]
  by_cases h : 8192 * i + n < 100000
  · rw [if_pos h, decide_eq_true (by omega)]; rfl
  · rw [if_neg h, decide_eq_false (by omega)]; rfl

/-- A tile of logits, entry by entry: the product plus the bias inside the array, and minus infinity past its last column. -/
theorem pay1_at (i : grid1.Coords) (x0 : Vec Ideal S32x256 .f32) (x1 : Vec Ideal S256x8192 .f32) (x2 : Vec Ideal S1x8192 .f32) (b : Fin 32) (n : Fin 8192) :
    k1_pay1 (F := Ideal) i x0 x1 x2 (ix2 b n) = if 8192 * (i 0).val + n.val < 100000 then ((∑ k : Fin 256, x0 (ix2 b k) * x1 (ix2 k n) : EReal) + x2 (ix2 0 n) : EReal) else ⊥ := by
  pointwise [k1_pay1]
  rw [ofBits_bot, inside _ _ (i 0).isLt n.isLt]
  split <;> rfl

/-- The largest entry of a tile's row. -/
theorem pay2_at (i : grid1.Coords) (x0 : Vec Ideal S32x256 .f32) (x1 : Vec Ideal S256x8192 .f32) (x2 : Vec Ideal S1x8192 .f32) (b : Fin 32) :
    k1_pay2 (F := Ideal) i x0 x1 x2 (ix2 b 0) = (Finset.univ.fold max (⊥ : EReal) fun n : Fin 8192 => k1_pay1 (F := Ideal) i x0 x1 x2 (ix2 b n)) := by
  pointwise [k1_pay2]
  rw [ofBits_bot]

/-- The first tile's maximum. -/
theorem pay3_at (i : grid1.Coords) (x0 : Vec Ideal S32x256 .f32) (x1 : Vec Ideal S256x8192 .f32) (x2 : Vec Ideal S1x8192 .f32) (b : Fin 32) :
    k1_pay3 (F := Ideal) i x0 x1 x2 (ix2 b 0) = k1_pay2 (F := Ideal) i x0 x1 x2 (ix2 b 0) := by
  pointwise [k1_pay3]

/-- The first tile's sum of exponentials, taken from the tile's maximum. -/
theorem pay4_at (i : grid1.Coords) (x0 : Vec Ideal S32x256 .f32) (x1 : Vec Ideal S256x8192 .f32) (x2 : Vec Ideal S1x8192 .f32) (b : Fin 32) :
    k1_pay4 (F := Ideal) i x0 x1 x2 (ix2 b 0)
      = (∑ n : Fin 8192, Ideal.exp ((k1_pay1 (F := Ideal) i x0 x1 x2 (ix2 b n) : EReal) - k1_pay2 (F := Ideal) i x0 x1 x2 (ix2 b 0)) : EReal) := by
  pointwise [k1_pay4]
  try rfl

/-- A later tile's running sum: the earlier one moved to the new maximum, plus the tile's own exponentials. -/
theorem pay6_at (i : grid1.Coords) (x0 : Vec Ideal S32x256 .f32) (x1 : Vec Ideal S256x8192 .f32) (x2 : Vec Ideal S1x8192 .f32) (m s : Vec Ideal S32x1 .f32) (b : Fin 32) :
    k1_pay6 (F := Ideal) i x0 x1 x2 m s (ix2 b 0)
      = ((s (ix2 b 0) : EReal) * Ideal.exp ((m (ix2 b 0) : EReal) - k1_pay7 (F := Ideal) i x0 x1 x2 m (ix2 b 0))
        + ∑ n : Fin 8192, Ideal.exp ((k1_pay1 (F := Ideal) i x0 x1 x2 (ix2 b n) : EReal) - k1_pay7 (F := Ideal) i x0 x1 x2 m (ix2 b 0)) : EReal) := by
  pointwise [k1_pay6, k1_pay7]
  try rfl

/-- A later tile's running maximum. -/
theorem pay7_at (i : grid1.Coords) (x0 : Vec Ideal S32x256 .f32) (x1 : Vec Ideal S256x8192 .f32) (x2 : Vec Ideal S1x8192 .f32) (m : Vec Ideal S32x1 .f32) (b : Fin 32) :
    k1_pay7 (F := Ideal) i x0 x1 x2 m (ix2 b 0) = max (m (ix2 b 0) : EReal) (k1_pay2 (F := Ideal) i x0 x1 x2 (ix2 b 0)) := by
  pointwise [k1_pay7, k1_pay5]
  try rfl

/-- The normalizer's block: every lane holds the maximum plus the logarithm of the sum. -/
theorem pay8_at (m s : Vec Ideal S32x1 .f32) (b : Fin 32) (l : Fin 128) :
    k1_pay8 (F := Ideal) m s (ix2 b l) = ((m (ix2 b 0) : EReal) + Ideal.log (s (ix2 b 0)) : EReal) := by
  pointwise [k1_pay8]
  try rfl

/-- The last kernel's block: the logits less the row's normalizer. -/
theorem sub_at (x0 : Vec Ideal S32x12288 .f32) (x1 : Vec Ideal S32x128 .f32) (b : Fin 32) (n : Fin 12288) :
    k2_pay1 (F := Ideal) x0 (lcol x1) (ix2 b n) = ((x0 (ix2 b n) : EReal) - x1 (ix2 b 0) : EReal) := by
  pointwise [k2_pay1, lcol]
  try rfl

end Cert.KernelIdeal.Hand

end
-- ==== Proof.Value.Cover.lean ====
/-
  An array written back block by block, known only by what each block may hold, is one function of its index once every block
  that may be written back agrees with that function and the blocks cover the array.
-/
module

public import Idealize.ShloMosaic.Lib.Pipeline.ArrRel
public import Idealize.ShloMosaic.Lib.Pipeline.DatRel
public import Idealize.ShloMosaic.Lib.Pipeline.ValueKit

@[expose] public section

noncomputable section

namespace Cert.Record

open Idealize.ShloMosaic Idealize.ShloMosaic.TcCoe Idealize.ShloMosaic.Pipeline
open Idealize.SL Idealize.SL.RA Idealize.SL.Sem

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]
variable {Λ₀ : Idealize.SL.Sem.Labels} {cfg : Cfg sig Λ₀} {c : Dev nD}

/-- The array after a run: the function its written-back blocks agree with, if they cover it. -/
theorem arr_eq_of_covers {rd : RDat τ Val Ix Name U Lvl cfg c} (w : Fin cfg.W)
    {G : Buf Val ((cfg.win w).arr.view.loc (c.tc : Thread nD τ))} (h : rd.ArrAt w cfg.N G)
    (G₀ : Buf Val ((cfg.win w).arr.view.loc (c.tc : Thread nD τ))) (hcov : (cfg.win w).Covers)
    (hG : ∀ t X, (cfg.win w).flush t = true → rd.Leaves w t X → ∀ y : ((cfg.win w).xblock (cfg.grid.coords t)).Idx,
      _root_.cast (congrArg Val ((cfg.win w).blk t).view.elt_eq.symm) (X ((cfg.win w).xinj (cfg.grid.coords t) y))
        = G₀ (((cfg.win w).blk t).view.emb y))
    (harr : (cfg.win w).arr.IsWhole := by first | exact Memref.isWhole_whole _ | assumption) : G = G₀ := by
  obtain ⟨X, hX, hA⟩ := h.exists_exact
  let after : (w' : Fin cfg.W) → Fin cfg.N → (cfg.win w').block.Idx → Val (cfg.win w').elt :=
    Function.update (fun _ _ _ => Classical.arbitrary _) w X
  have e : after w = X := Function.update_self ..
  rw [hA after fun u _ _ => by rw [e]]
  refine (rd.withAfter after).arrAt_eq_of_covers w G₀ hcov (fun t hf y => ?_) harr
  rw [RDat.withAfter_after, e]
  exact hG t (X t) hf (hX t t.isLt hf) y

end Cert.Record

end
-- ==== Proof.Value.Arr0.lean ====
/-
  The embedding after the first kernel: the masked sum of the three projections, chunk by chunk.
-/
module

public import proofs.«01_k».proof.Proof.KI.Run
public import proofs.«01_k».proof.Proof.Value.Pay
public import proofs.«01_k».proof.Proof.Value.Cover
public import proofs.«01_k».proof.Proof.Value.Reals

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

/-- The block each window of the first kernel stands at. -/
theorem idx0 : ∀ t : Fin cfg0.N, t.val < 8 ∧ win0_0.index t = ![0, 0, t.val] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0, 0] ∧ win0_8.index t = ![0, 0] :=
  (by decide +kernel : ∀ t : Fin grid0.N, _)

variable (x : Dev nD → Valuation τ sig (Elt Ideal)) (c : Dev nD)

/-- The modalities as the first kernel finds them. -/
abbrev ain (x : Dev nD → Valuation τ sig (Elt Ideal)) (c : Dev nD) : FVec Ideal S3x32x16384 .f32 := x c (Proc.devRef .tc main_arg0)
/-- The first modality's weights as the first kernel finds them. -/
abbrev win (x : Dev nD → Valuation τ sig (Elt Ideal)) (c : Dev nD) (j : Fin 3) : FVec Ideal S16384x256 .f32 := match j with
  | 0 => x c (Proc.devRef .tc main_arg1) | 1 => x c (Proc.devRef .tc main_arg3) | 2 => x c (Proc.devRef .tc main_arg5)
/-- The modalities' biases as the first kernel finds them. -/
abbrev bin (x : Dev nD → Valuation τ sig (Elt Ideal)) (c : Dev nD) (j : Fin 3) : FVec Ideal S1x256 .f32 := match j with
  | 0 => x c (Proc.devRef .tc main_v20) | 1 => x c (Proc.devRef .tc main_v21) | 2 => x c (Proc.devRef .tc main_v22)
/-- The masks as the first kernel finds them. -/
abbrev min' (x : Dev nD → Valuation τ sig (Elt Ideal)) (c : Dev nD) : FVec Ideal S3x32x256 .f32 := x c (Proc.devRef .tc main_v19)

/-- A block of the modalities. -/
theorem blk0_0_at (t : Fin cfg0.N) (j : Fin 3) (b : Fin 32) (k : Fin 2048) :
    blk0_0 x c t (ix3 j b k) = ain x c (ix3 j b ⟨2048 * t.val + k.val, by have := (idx0 t).1; omega⟩) := by
  unfold blk0_0 ain
  blk_ext [iblk0, idx0 t]

/-- A block of the first modality's weights. -/
theorem blk0_1_at (t : Fin cfg0.N) (k : Fin 2048) (e : Fin 256) :
    blk0_1 x c t (ix2 k e) = win x c 0 (ix2 ⟨2048 * t.val + k.val, by have := (idx0 t).1; omega⟩ e) := by
  unfold blk0_1 win
  blk_ext [iblk0, idx0 t]

/-- A block of the second modality's weights. -/
theorem blk0_2_at (t : Fin cfg0.N) (k : Fin 2048) (e : Fin 256) :
    blk0_2 x c t (ix2 k e) = win x c 1 (ix2 ⟨2048 * t.val + k.val, by have := (idx0 t).1; omega⟩ e) := by
  unfold blk0_2 win
  blk_ext [iblk0, idx0 t]

/-- A block of the third modality's weights. -/
theorem blk0_3_at (t : Fin cfg0.N) (k : Fin 2048) (e : Fin 256) :
    blk0_3 x c t (ix2 k e) = win x c 2 (ix2 ⟨2048 * t.val + k.val, by have := (idx0 t).1; omega⟩ e) := by
  unfold blk0_3 win
  blk_ext [iblk0, idx0 t]

/-- The first bias's block is the bias. -/
theorem blk0_4_at (t : Fin cfg0.N) (e : Fin 256) : blk0_4 x c t (ix2 0 e) = bin x c 0 (ix2 0 e) := by
  unfold blk0_4 bin
  blk_ext [iblk0, idx0 t]

/-- The second bias's block is the bias. -/
theorem blk0_5_at (t : Fin cfg0.N) (e : Fin 256) : blk0_5 x c t (ix2 0 e) = bin x c 1 (ix2 0 e) := by
  unfold blk0_5 bin
  blk_ext [iblk0, idx0 t]

/-- The third bias's block is the bias. -/
theorem blk0_6_at (t : Fin cfg0.N) (e : Fin 256) : blk0_6 x c t (ix2 0 e) = bin x c 2 (ix2 0 e) := by
  unfold blk0_6 bin
  blk_ext [iblk0, idx0 t]

/-- The masks' block is the masks. -/
theorem blk0_7_at (t : Fin cfg0.N) (j : Fin 3) (b : Fin 32) (e : Fin 256) : blk0_7 x c t (ix3 j b e) = min' x c (ix3 j b e) := by
  unfold blk0_7 min'
  blk_ext [iblk0, idx0 t]

variable (b : Fin 32) (e : Fin 256) (M B : Fin 3 → ℝ) (f : Fin 3 → ℕ → ℝ)
  (hM : ∀ j : Fin 3, min' x c (ix3 j b e) = (M j : EReal)) (hB : ∀ j : Fin 3, bin x c j (ix2 0 e) = (B j : EReal))
  (hf : ∀ (j : Fin 3) (k : Fin 16384), (ain x c (ix3 j b k) * win x c j (ix2 k e) : EReal) = (f j k.val : EReal))

include hM hf in
/-- One point's step of an entry of the embedding. -/
theorem step_at (t : Fin cfg0.N) (acc : FVec Ideal S32x256 .f32) (r : ℝ) (hr : acc (ix2 b e) = (r : EReal)) :
    embStep (F := Ideal) (blk0_0 x c t) (blk0_1 x c t) (blk0_2 x c t) (blk0_3 x c t) (blk0_7 x c t) acc (ix2 b e)
      = ((r + M 0 * (∑ k ∈ Finset.range 2048, f 0 (2048 * t.val + k)) + M 1 * (∑ k ∈ Finset.range 2048, f 1 (2048 * t.val + k))
        + M 2 * (∑ k ∈ Finset.range 2048, f 2 (2048 * t.val + k)) : ℝ) : EReal) := by
  rw [embStep_at, hr, blk0_7_at, blk0_7_at, blk0_7_at, hM, hM, hM,
    Reals.dot_coe 2048 (fun k => blk0_0 x c t (ix3 0 b k)) (fun k => blk0_1 x c t (ix2 k e)) (fun k => f 0 (2048 * t.val + k)) (fun k => by rw [blk0_0_at, blk0_1_at]; exact hf 0 _),
    Reals.dot_coe 2048 (fun k => blk0_0 x c t (ix3 1 b k)) (fun k => blk0_2 x c t (ix2 k e)) (fun k => f 1 (2048 * t.val + k)) (fun k => by rw [blk0_0_at, blk0_2_at]; exact hf 1 _),
    Reals.dot_coe 2048 (fun k => blk0_0 x c t (ix3 2 b k)) (fun k => blk0_3 x c t (ix2 k e)) (fun k => f 2 (2048 * t.val + k)) (fun k => by rw [blk0_0_at, blk0_3_at]; exact hf 2 _)]
  simp only [← EReal.coe_mul, ← EReal.coe_add]

include hM hB hf in
/-- An entry of the accumulator after each point. -/
theorem acc_at : ∀ n : ℕ, n < 8 → acc0 x c n (ix2 b e) = (Reals.embr M B f (2048 * (n + 1)) : EReal)
  | 0, _ => by
    have e0 : (pt0 0).val = 0 := rfl
    rw [acc0, step_at x c b e M f hM hf (pt0 0) _ (Reals.embr M B f 0) (by
      rw [embInit_at, blk0_7_at, blk0_7_at, blk0_7_at, hM, hM, hM, blk0_4_at, blk0_5_at, blk0_6_at, hB, hB, hB, Reals.embr_zero]
      simp only [← EReal.coe_mul, ← EReal.coe_add]), e0, Nat.mul_zero, ← Reals.embr_add]
  | n + 1, hn => by
    have e0 : (pt0 (n + 1)).val = n + 1 := Nat.mod_eq_of_lt hn
    rw [acc0, step_at x c b e M f hM hf (pt0 (n + 1)) _ _ (acc_at n (by omega)), e0, ← Reals.embr_add]
    rfl

/-- The embedding after the first kernel is the accumulator after the last point. -/
theorem emb_arr (W : Valuation τ sig (Elt Ideal)) (h : Record.Leaves (pcfgs (F := Ideal)) adm 0 (dats x) mks (Rls x) c (x c) W) :
    W (Proc.devRef .tc main_v24) = (acc0 x c 7 : FVec Ideal S32x256 .f32) := by
  have h2 : ((dat0 x c).toRRel mk0 (Rl0 x c)).ArrAt 8 cfg0.N (W (Proc.devRef .tc main_v24)) := h.2 8
  refine Record.arr_eq_of_covers (cfg := cfg0) 8 h2 _ (by decide +kernel) fun t X hf hX y => ?_
  have hX' : Rl0 x c 8 t X := Dat.toRRel_leaves (dat0 x c) (fgt := mk0) (Rl := Rl0 x c) rfl hX
  have ht : t.val = 7 := by have := (flush0_8 t).mp hf; have := (idx0 t).1; omega
  obtain rfl := hX' ht
  blk_simp
  blk_ext [idx0 t]

end Cert.KernelIdeal.Hand

end
-- ==== Proof.Value.Arr2.lean ====
/-
  The result array: the logits less each row's normalizer.
-/
module

public import proofs.«01_k».proof.Proof.KI.Run
public import proofs.«01_k».proof.Proof.Value.Pay
public import proofs.«01_k».proof.Proof.Value.Cover

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

/-- The block each window of the last kernel stands at. -/
theorem idx2 : ∀ t : Fin cfg2.N, win2_0.index t = ![0, t.val] ∧ win2_1.index t = ![0, 0] ∧ win2_2.index t = ![0, t.val] :=
  (by decide +kernel : ∀ t : Fin grid2.N, _)

/-- How much of each block of the last kernel lies inside its array. -/
theorem xsize2 : ∀ t : Fin cfg2.N, (∀ a, win2_0.xsize (grid2.coords t) a = (![32, min 12288 (100000 - 12288 * t.val)] : Fin 2 → ℕ) a)
    ∧ ∀ a, win2_2.xsize (grid2.coords t) a = (![32, min 12288 (100000 - 12288 * t.val)] : Fin 2 → ℕ) a :=
  (by decide +kernel : ∀ t : Fin grid2.N, _)

/-- A block of logits read at a column inside the array. -/
theorem blk2_0_at (x : Dev nD → Valuation τ sig (Elt Ideal)) (c : Dev nD) (t : Fin cfg2.N) (d : Vec Ideal S32x12288 .f32)
    (b : Fin 32) (n : Fin 12288) (h : 12288 * t.val + n.val < 100000) :
    blk2_0 x c t d (ix2 b n) = x c (Proc.devRef .tc main_v25_0) (ix2 b ⟨12288 * t.val + n.val, h⟩ : S32x100000.Idx) := by
  have hm : (cfg2.win 0).moved (cfg2.grid.coords t) (ix2 b n) = true := ((cfg2.win 0).moved_iff _ _).mpr fun a => by
    have e := (xsize2 t).1 a
    refine lt_of_lt_of_eq ?_ e.symm
    have hn := n.isLt
    match a with
    | ⟨0, _⟩ => exact b.isLt
    | ⟨1, _⟩ => show n.val < min 12288 (100000 - 12288 * t.val); omega
  unfold blk2_0 Pipeline.Window.fill
  rw [dif_pos hm]
  blk_ext [iblk2, idx2 t]

/-- The result array after the last kernel. -/
theorem out_arr (x : Dev nD → Valuation τ sig (Elt Ideal)) (c : Dev nD) (W : Valuation τ sig (Elt Ideal))
    (h : Record.Leaves (pcfgs (F := Ideal)) adm 2 (dats x) mks (Rls x) c (x c) W)
    (L : FVec Ideal S32x100000 .f32) (hL : x c (Proc.devRef .tc main_v25_0) = L)
    (Z : FVec Ideal S32x128 .f32) (hZ : x c (Proc.devRef .tc main_v25_1) = Z) :
    W (Proc.devRef .tc main_v26) = (fun i => (L i : EReal) - Z (ix2 (i 0) 0) : FVec Ideal S32x100000 .f32) := by
  have h2 : ((dat2 x c).toRRel mk2 (Rl2 x c)).ArrAt 2 cfg2.N (W (Proc.devRef .tc main_v26)) := h.2 2
  refine Record.arr_eq_of_covers (cfg := cfg2) 2 h2 _ (by decide +kernel) fun t X hf hX y => ?_
  have hX' : Rl2 x c 2 t X := Dat.toRRel_leaves (dat2 x c) (fgt := mk2) (Rl := Rl2 x c) rfl hX
  obtain ⟨d, rfl⟩ := hX'
  subst hL hZ
  blk_simp
  have hy0 : (y 0).val < 32 := lt_of_lt_of_eq (y 0).isLt ((xsize2 t).2 0)
  have hy1 : (y 1).val < min 12288 (100000 - 12288 * t.val) := lt_of_lt_of_eq (y 1).isLt ((xsize2 t).2 1)
  have ej : (cfg2.win 2).xinj (cfg2.grid.coords t) y = (ix2 ⟨(y 0).val, hy0⟩ ⟨(y 1).val, by omega⟩ : S32x12288.Idx) := eq_ix2 (n0 := 32) (n1 := 12288) _
  rw [ej]
  refine (sub_at _ _ _ _).trans ?_
  refine congrArg₂ (fun a b : EReal => a - b) ((blk2_0_at x c t d _ _ ?_).trans ?_) ?_
  · dsimp only; omega
  · blk_ext [idx2 t]
  · blk_ext [iblk2, idx2 t]

end Cert.KernelIdeal.Hand

end
-- ==== Proof.Value.Arr1.lean ====
/-
  The array of logits after the second kernel, tile by tile.
-/
module

public import proofs.«01_k».proof.Proof.KI.Run
public import proofs.«01_k».proof.Proof.Value.Pay
public import proofs.«01_k».proof.Proof.Value.Cover
public import proofs.«01_k».proof.Proof.Value.Reals

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

/-- The grid coordinate and the block each window of the second kernel stands at. -/
theorem idx1 : ∀ t : Fin cfg1.N, ((grid1.coords t) 0).val = t.val ∧ t.val < 13 ∧ win1_0.index t = ![0, 0] ∧ win1_1.index t = ![0, t.val] ∧ win1_2.index t = ![0, t.val]
    ∧ win1_3.index t = ![0, t.val] ∧ win1_4.index t = ![0, 0] :=
  (by decide +kernel : ∀ t : Fin grid1.N, _)

/-- How much of each block of the second kernel lies inside its array. -/
theorem xsize1 : ∀ t : Fin cfg1.N, (∀ a, win1_1.xsize (grid1.coords t) a = (![256, min 8192 (100000 - 8192 * t.val)] : Fin 2 → ℕ) a)
    ∧ (∀ a, win1_2.xsize (grid1.coords t) a = (![1, min 8192 (100000 - 8192 * t.val)] : Fin 2 → ℕ) a)
    ∧ (∀ a, win1_3.xsize (grid1.coords t) a = (![32, min 8192 (100000 - 8192 * t.val)] : Fin 2 → ℕ) a)
    ∧ ∀ a, win1_4.xsize (grid1.coords t) a = (![32, 128] : Fin 2 → ℕ) a :=
  (by decide +kernel : ∀ t : Fin grid1.N, _)

section

variable (x : Dev nD → Valuation τ sig (Elt Ideal)) (c : Dev nD)

/-- The embedding as the second kernel finds it. -/
abbrev emb (x : Dev nD → Valuation τ sig (Elt Ideal)) (c : Dev nD) : FVec Ideal S32x256 .f32 := x c (Proc.devRef .tc main_v24)
/-- The projection's weights as the second kernel finds them. -/
abbrev proj (x : Dev nD → Valuation τ sig (Elt Ideal)) (c : Dev nD) : FVec Ideal S256x100000 .f32 := x c (Proc.devRef .tc main_arg7)
/-- The projection's biases as the second kernel finds them. -/
abbrev pbias (x : Dev nD → Valuation τ sig (Elt Ideal)) (c : Dev nD) : FVec Ideal S1x100000 .f32 := x c (Proc.devRef .tc main_v23)

/-- The embedding's block is the embedding. -/
theorem blk1_0_at (t : Fin cfg1.N) (b : Fin 32) (k : Fin 256) : blk1_0 x c t (ix2 b k) = emb x c (ix2 b k) := by
  unfold blk1_0 emb
  blk_ext [iblk1, idx1 t]

/-- A block of the weights read at a column inside the array. -/
theorem blk1_1_at (t : Fin cfg1.N) (d : Vec Ideal S256x8192 .f32) (k : Fin 256) (n : Fin 8192) (h : 8192 * t.val + n.val < 100000) :
    blk1_1 x c t d (ix2 k n) = proj x c (ix2 k ⟨8192 * t.val + n.val, h⟩) := by
  have hm : (cfg1.win 1).moved (cfg1.grid.coords t) (ix2 k n) = true := ((cfg1.win 1).moved_iff _ _).mpr fun a => by
    have e := (xsize1 t).1 a
    refine lt_of_lt_of_eq ?_ e.symm
    have hn := n.isLt
    match a with
    | ⟨0, _⟩ => exact k.isLt
    | ⟨1, _⟩ => show n.val < min 8192 (100000 - 8192 * t.val); omega
  unfold blk1_1 proj Pipeline.Window.fill
  rw [dif_pos hm]
  blk_ext [iblk1, idx1 t]

/-- A block of the biases read at a column inside the array. -/
theorem blk1_2_at (t : Fin cfg1.N) (d : Vec Ideal S1x8192 .f32) (n : Fin 8192) (h : 8192 * t.val + n.val < 100000) :
    blk1_2 x c t d (ix2 0 n) = pbias x c (ix2 0 ⟨8192 * t.val + n.val, h⟩) := by
  have hm : (cfg1.win 2).moved (cfg1.grid.coords t) (ix2 0 n) = true := ((cfg1.win 2).moved_iff _ _).mpr fun a => by
    have e := (xsize1 t).2.1 a
    refine lt_of_lt_of_eq ?_ e.symm
    have hn := n.isLt
    match a with
    | ⟨0, _⟩ => exact Nat.zero_lt_one
    | ⟨1, _⟩ => show n.val < min 8192 (100000 - 8192 * t.val); omega
  unfold blk1_2 pbias Pipeline.Window.fill
  rw [dif_pos hm]
  blk_ext [iblk1, idx1 t]

/-- The logit of row `b` and column `n`. -/
def logit (b : Fin 32) (n : Fin 100000) : EReal := (∑ k : Fin 256, emb x c (ix2 b k) * proj x c (ix2 k n) : EReal) + pbias x c (ix2 0 n)

/-- A tile's entry at a column inside the array is the logit there, whatever the rest of the tile holds. -/
theorem tile_at (t : Fin cfg1.N) (d1 : Vec Ideal S256x8192 .f32) (d2 : Vec Ideal S1x8192 .f32) (b : Fin 32) (n : Fin 8192) (h : 8192 * t.val + n.val < 100000) :
    k1_pay1 (F := Ideal) (grid1.coords t) (blk1_0 x c t) (blk1_1 x c t d1) (blk1_2 x c t d2) (ix2 b n) = logit x c b ⟨8192 * t.val + n.val, h⟩ := by
  rw [pay1_at, (idx1 t).1, if_pos h, blk1_2_at x c t d2 n h]
  unfold logit
  refine congrArg (fun a : EReal => a + _) (Finset.sum_congr rfl fun k _ => ?_)
  rw [blk1_0_at, blk1_1_at x c t d1 k n h]

/-- A tile's entry past the array's last column. -/
theorem tile_out (t : Fin cfg1.N) (d1 : Vec Ideal S256x8192 .f32) (d2 : Vec Ideal S1x8192 .f32) (b : Fin 32) (n : Fin 8192) (h : ¬8192 * t.val + n.val < 100000) :
    k1_pay1 (F := Ideal) (grid1.coords t) (blk1_0 x c t) (blk1_1 x c t d1) (blk1_2 x c t d2) (ix2 b n) = (⊥ : EReal) := by
  rw [pay1_at, (idx1 t).1, if_neg h]

variable (W : Valuation τ sig (Elt Ideal)) (h : Record.Leaves (pcfgs (F := Ideal)) adm 1 (dats x) mks (Rls x) c (x c) W)

include h in
/-- The array of logits after the second kernel. -/
theorem logits_arr : W (Proc.devRef .tc main_v25_0) = (fun i => logit x c (i 0) (i 1) : FVec Ideal S32x100000 .f32) := by
  have h2 : ((dat1 x c).toRRel mk1 (Rl1 x c)).ArrAt 3 cfg1.N (W (Proc.devRef .tc main_v25_0)) := h.2 3
  refine Record.arr_eq_of_covers (cfg := cfg1) 3 h2 _ (by decide +kernel) fun t X hf hX y => ?_
  have hX' : Rl1 x c 3 t X := Dat.toRRel_leaves (dat1 x c) (fgt := mk1) (Rl := Rl1 x c) rfl hX
  obtain ⟨d1, d2, rfl⟩ := hX'
  blk_simp
  have hy0 : (y 0).val < 32 := lt_of_lt_of_eq (y 0).isLt ((xsize1 t).2.2.1 0)
  have hy1 : (y 1).val < min 8192 (100000 - 8192 * t.val) := lt_of_lt_of_eq (y 1).isLt ((xsize1 t).2.2.1 1)
  have ej : (cfg1.win 3).xinj (cfg1.grid.coords t) y = (ix2 ⟨(y 0).val, hy0⟩ ⟨(y 1).val, by omega⟩ : S32x8192.Idx) := eq_ix2 (n0 := 32) (n1 := 8192) _
  rw [ej]
  refine (tile_at x c t d1 d2 _ _ (by dsimp only; omega)).trans ?_
  refine congrArg₂ (logit x c) (Fin.ext ?_) (Fin.ext ?_)
  · blk_simp [idx1 t]
  · blk_simp [idx1 t]; dsimp only; omega

end

end Cert.KernelIdeal.Hand

end
-- ==== Proof.Value.Lse.lean ====
/-
  The array of normalizers after the second kernel: the running maximum and the running sum, tile by tile.
-/
module

public import proofs.«01_k».proof.Proof.Value.Arr1

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

variable (x : Dev nD → Valuation τ sig (Elt Ideal)) (c : Dev nD)
variable (l : Fin 32 → ℕ → ℝ) (hl : ∀ (b : Fin 32) (n : Fin 100000), logit x c b n = (l b n.val : EReal))

include hl in
/-- A tile's entry is the row's entry at its column, minus infinity past the last one. -/
theorem tile_entry (t : Fin cfg1.N) (d1 : Vec Ideal S256x8192 .f32) (d2 : Vec Ideal S1x8192 .f32) (b : Fin 32) (n : Fin 8192) :
    k1_pay1 (F := Ideal) (grid1.coords t) (blk1_0 x c t) (blk1_1 x c t d1) (blk1_2 x c t d2) (ix2 b n) = Reals.entry (l b) (8192 * t.val + n.val) := by
  unfold Reals.entry
  by_cases h : 8192 * t.val + n.val < 100000
  · rw [if_pos h, tile_at x c t d1 d2 b n h, hl]
  · rw [if_neg h, tile_out x c t d1 d2 b n h]

include hl in
/-- A tile's maximum is a real number: its first column lies inside the array. -/
theorem tile_max (t : Fin cfg1.N) (d1 : Vec Ideal S256x8192 .f32) (d2 : Vec Ideal S1x8192 .f32) (b : Fin 32) :
    ∃ μ : ℝ, k1_pay2 (F := Ideal) (grid1.coords t) (blk1_0 x c t) (blk1_1 x c t d1) (blk1_2 x c t d2) (ix2 b 0) = (μ : EReal) := by
  rw [pay2_at]
  refine Reals.fold_max_real _ (fun n => ?_) (0 : Fin 8192) ?_
  · rw [tile_entry x c l hl]; exact Reals.entry_ne_top _ _
  · rw [tile_entry x c l hl]; exact Reals.entry_ne_bot _ _ (by have := (idx1 t).2.1; simp only [Fin.val_zero]; omega)

include hl in
/-- A tile's exponentials, taken from a real number. -/
theorem tile_exps (t : Fin cfg1.N) (d1 : Vec Ideal S256x8192 .f32) (d2 : Vec Ideal S1x8192 .f32) (b : Fin 32) (μ : ℝ) :
    (∑ n : Fin 8192, Ideal.exp ((k1_pay1 (F := Ideal) (grid1.coords t) (blk1_0 x c t) (blk1_1 x c t d1) (blk1_2 x c t d2) (ix2 b n) : EReal) - (μ : EReal)) : EReal)
      = ((∑ k ∈ Finset.range 8192, if 8192 * t.val + k < 100000 then Real.exp (l b (8192 * t.val + k) - μ) else 0 : ℝ) : EReal) := by
  rw [← Reals.tile_sum]
  exact Finset.sum_congr rfl fun n _ => by rw [tile_entry x c l hl]

include hl in
/-- After each tile the running maximum is a real number and the running sum is that of the exponentials so far, taken from it. -/
theorem run_inv (b : Fin 32) : ∀ (n : ℕ) (mx sm : FVec Ideal S32x1 .f32), n < 13 → Run1 x c n mx sm →
    ∃ μ : ℝ, mx (ix2 b 0) = (μ : EReal) ∧ sm (ix2 b 0) = (Reals.part (l b) (8192 * (n + 1)) μ : EReal)
  | 0, mx, sm, _, h => by
    obtain ⟨d1, d2, rfl, rfl⟩ := h
    obtain ⟨μ, hμ⟩ := tile_max x c l hl (pt1 0) d1 d2 b
    refine ⟨μ, (pay3_at _ _ _ _ _).trans hμ, (pay4_at _ _ _ _ _).trans ?_⟩
    rw [hμ]
    refine (tile_exps x c l hl (pt1 0) d1 d2 b μ).trans ?_
    have e : (pt1 0).val = 0 := rfl
    rw [e]
    simp only [Nat.mul_zero, Nat.zero_add, Nat.mul_one, Reals.part]
  | n + 1, mx, sm, hn, h => by
    obtain ⟨mx', sm', d1, d2, hr, rfl, rfl⟩ := h
    obtain ⟨ν, h1, h2⟩ := run_inv b n mx' sm' (by omega) hr
    obtain ⟨μ, hμ⟩ := tile_max x c l hl (pt1 (n + 1)) d1 d2 b
    have hm : k1_pay7 (F := Ideal) (grid1.coords (pt1 (n + 1))) (blk1_0 x c (pt1 (n + 1))) (blk1_1 x c (pt1 (n + 1)) d1) (blk1_2 x c (pt1 (n + 1)) d2) mx' (ix2 b 0) = ((max ν μ : ℝ) : EReal) := by
      rw [pay7_at, h1, hμ]; exact (EReal.coe_strictMono.monotone.map_max (a := ν) (b := μ)).symm
    refine ⟨max ν μ, hm, (pay6_at _ _ _ _ _ _ _).trans ?_⟩
    rw [hm, h1, h2]
    refine (Ideal.add_congr rfl (tile_exps x c l hl (pt1 (n + 1)) d1 d2 b (max ν μ))).trans ?_
    have e : (pt1 (n + 1)).val = n + 1 := Nat.mod_eq_of_lt hn
    rw [e, ← EReal.coe_sub, Ideal.exp_coe, ← EReal.coe_mul, Reals.part_shift, ← EReal.coe_add, ← Reals.part_add]
    rfl

variable (W : Valuation τ sig (Elt Ideal)) (h : Record.Leaves (pcfgs (F := Ideal)) adm 1 (dats x) mks (Rls x) c (x c) W)

include h hl in
/-- The array of normalizers after the second kernel: in every lane, the logarithm of the sum of the exponentials of the row's logits. -/
theorem lse_arr : W (Proc.devRef .tc main_v25_1) = (fun i => ((Reals.lse (l (i 0)) : ℝ) : EReal) : FVec Ideal S32x128 .f32) := by
  have h2 : ((dat1 x c).toRRel mk1 (Rl1 x c)).ArrAt 4 cfg1.N (W (Proc.devRef .tc main_v25_1)) := h.2 4
  refine Record.arr_eq_of_covers (cfg := cfg1) 4 h2 _ (by decide +kernel) fun t X hf hX y => ?_
  have hX' : Rl1 x c 4 t X := Dat.toRRel_leaves (dat1 x c) (fgt := mk1) (Rl := Rl1 x c) rfl hX
  have ht : t.val = 12 := by have := (flush1_4 t).mp hf; have := (idx1 t).2.1; omega
  obtain ⟨mx, sm, hr, rfl⟩ := hX' ht
  blk_simp
  have hy0 : (y 0).val < 32 := lt_of_lt_of_eq (y 0).isLt ((xsize1 t).2.2.2 0)
  have hy1 : (y 1).val < 128 := lt_of_lt_of_eq (y 1).isLt ((xsize1 t).2.2.2 1)
  have ej : (cfg1.win 4).xinj (cfg1.grid.coords t) y = (ix2 ⟨(y 0).val, hy0⟩ ⟨(y 1).val, hy1⟩ : S32x128.Idx) := eq_ix2 (n0 := 32) (n1 := 128) _
  refine (congrArg (k1_pay8 (F := Ideal) mx sm) ej).trans ?_
  refine (pay8_at _ _ _ _).trans ?_
  obtain ⟨μ, h1, h2⟩ := run_inv x c l hl ⟨(y 0).val, hy0⟩ 12 mx sm (by norm_num) hr
  rw [h1, h2, Reals.part_whole _ _ (by norm_num), Reals.log_sum, ← EReal.coe_add, Reals.lse_shift]
  refine congrArg (fun b : Fin 32 => ((Reals.lse (l b) : ℝ) : EReal)) (Fin.ext ?_)
  blk_simp [idx1 t]

end Cert.KernelIdeal.Hand

end
-- ==== Proof.Value.Host.lean ====
/-
  What the first kernel finds: the arguments as launched, the biases as rows, the mask by modality.
-/
module

public import proofs.«01_k».proof.Proof.KI.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A reference no host operation writes reaches the first kernel as launched. -/
theorem launched (r : Ref sig .tc) (hr : r ∉ hostOps0_W ++ hostOps0_1_W ++ hostOps0_2_W ++ hostOps0_3_W ++ hostOps0_4_W ++ hostOps0_5_W) :
    V6 m c (Proc.devRef .tc r) = m ((c : Thread nD τ).loc r) := by
  simp only [List.mem_append, not_or] at hr
  obtain ⟨⟨⟨⟨⟨r0, r1⟩, r2⟩, r3⟩, r4⟩, r5⟩ := hr
  exact (V6_of m c r r5).trans ((V5_of m c r r4).trans ((V4_of m c r r3).trans ((V3_of m c r r2).trans ((V2_of m c r r1).trans ((V1_of m c r r0).trans rfl)))))

/-- A reference written by the last host stretch only is as launched before it. -/
theorem before (r : Ref sig .tc) (hr : r ∉ hostOps0_W ++ hostOps0_1_W ++ hostOps0_2_W ++ hostOps0_3_W ++ hostOps0_4_W) :
    V5 m c (Proc.devRef .tc r) = m ((c : Thread nD τ).loc r) := by
  simp only [List.mem_append, not_or] at hr
  obtain ⟨⟨⟨⟨r0, r1⟩, r2⟩, r3⟩, r4⟩ := hr
  exact (V5_of m c r r4).trans ((V4_of m c r r3).trans ((V3_of m c r r2).trans ((V2_of m c r r1).trans ((V1_of m c r r0).trans rfl))))

variable (V : Valuation τ sig (Elt Ideal))

/-- The mask by modality is the mask transposed. -/
theorem after_v19 : StableHlo.after hostOps0_5 V (Proc.devRef .tc main_v19)
    = (transpose S3x32x256 [2, 0, 1] (V (Proc.devRef .tc main_v18) : FVec Ideal S32x256x3 .f32) transposes_S32x256x3_S3x32x256_2_0_1 : FVec Ideal S3x32x256 .f32) := by
  dsimp only [hostOps0_5]
  simp only [StableHlo.after_cons, StableHlo.after_nil]
  after_results_simp

/-- The first bias as a row. -/
theorem after_v20 : StableHlo.after hostOps0_5 V (Proc.devRef .tc main_v20)
    = (shapeCast S1x256 (V (Proc.devRef .tc main_arg2) : FVec Ideal S256 .f32) shapeCasts_S256_S1x256 : FVec Ideal S1x256 .f32) := by
  dsimp only [hostOps0_5]
  simp only [StableHlo.after_cons, StableHlo.after_nil]
  after_results_simp
  rfl

/-- The second bias as a row. -/
theorem after_v21 : StableHlo.after hostOps0_5 V (Proc.devRef .tc main_v21)
    = (shapeCast S1x256 (V (Proc.devRef .tc main_arg4) : FVec Ideal S256 .f32) shapeCasts_S256_S1x256 : FVec Ideal S1x256 .f32) := by
  dsimp only [hostOps0_5]
  simp only [StableHlo.after_cons, StableHlo.after_nil]
  after_results_simp
  rfl

/-- The third bias as a row. -/
theorem after_v22 : StableHlo.after hostOps0_5 V (Proc.devRef .tc main_v22)
    = (shapeCast S1x256 (V (Proc.devRef .tc main_arg6) : FVec Ideal S256 .f32) shapeCasts_S256_S1x256 : FVec Ideal S1x256 .f32) := by
  dsimp only [hostOps0_5]
  simp only [StableHlo.after_cons, StableHlo.after_nil]
  after_results_simp
  rfl

/-- The logits' bias as a row. -/
theorem after_v23 : StableHlo.after hostOps0_5 V (Proc.devRef .tc main_v23)
    = (shapeCast S1x100000 (V (Proc.devRef .tc main_arg8) : FVec Ideal S100000 .f32) shapeCasts_S100000_S1x100000 : FVec Ideal S1x100000 .f32) := by
  dsimp only [hostOps0_5]
  simp only [StableHlo.after_cons, StableHlo.after_nil]
  after_results_simp
  rfl

/-- An entry of the transposed mask. -/
theorem transpose_at (x : FVec Ideal S32x256x3 .f32) (j : Fin 3) (b : Fin 32) (e : Fin 256) :
    transpose S3x32x256 [2, 0, 1] x transposes_S32x256x3_S3x32x256_2_0_1 (ix3 j b e) = x (ix3 b e j) := by
  pointwise

/-- An entry of a bias as a row. -/
theorem row_at (x : FVec Ideal S256 .f32) (e : Fin 256) : shapeCast S1x256 x shapeCasts_S256_S1x256 (ix2 0 e) = x (ix1 e) := by
  pointwise

/-- An entry of the logits' bias as a row. -/
theorem wide_row_at (x : FVec Ideal S100000 .f32) (n : Fin 100000) : shapeCast S1x100000 x shapeCasts_S100000_S1x100000 (ix2 0 n) = x (ix1 n) := by
  pointwise

/-- The mask holds real numbers: each is read off one bit. -/
theorem after_v18 (i : S32x256x3.Idx) : ∃ r : ℝ, (StableHlo.after hostOps0_4 V (Proc.devRef .tc main_v18) : FVec Ideal S32x256x3 .f32) i = (r : EReal) := by
  dsimp only [hostOps0_4]
  simp only [StableHlo.after_cons, StableHlo.after_nil]
  after_results_simp
  exact ⟨_, rfl⟩

end Cert.KernelIdeal.Hand

end
-- ==== Proof.Value.Model.lean ====
/-
  The real numbers both programs compute: the embedding, the logits, the result.
-/
module

public import proofs.«01_k».proof.Proof.Value.Reals

@[expose] public section

noncomputable section

namespace Cert.Model

open Idealize.ShloMosaic

/-- The arguments and the mask as real numbers. -/
structure Data where
  /-- The modalities. -/
  X : Fin 3 → Fin 32 → Fin 16384 → ℝ
  /-- The modalities' weights. -/
  W : Fin 3 → Fin 16384 → Fin 256 → ℝ
  /-- The modalities' biases. -/
  B : Fin 3 → Fin 256 → ℝ
  /-- The mask. -/
  K : Fin 32 → Fin 256 → Fin 3 → ℝ
  /-- The logits' weights. -/
  P : Fin 256 → Fin 100000 → ℝ
  /-- The logits' biases. -/
  Q : Fin 100000 → ℝ

variable (D : Data)

/-- A product of a modality's dot product, by its position. -/
def Data.prod (b : Fin 32) (e : Fin 256) (j : Fin 3) (k : ℕ) : ℝ := if h : k < 16384 then D.X j b ⟨k, h⟩ * D.W j ⟨k, h⟩ e else 0

theorem Data.prod_at (b : Fin 32) (e : Fin 256) (j : Fin 3) (k : Fin 16384) : D.prod b e j k.val = D.X j b k * D.W j k e := dif_pos k.isLt

/-- An entry of the embedding. -/
def Data.emb (b : Fin 32) (e : Fin 256) : ℝ := Reals.embr (D.K b e) (fun j => D.B j e) (D.prod b e) 16384

/-- A logit, by its position in the row. -/
def Data.logit (b : Fin 32) (n : ℕ) : ℝ := if h : n < 100000 then (∑ k : Fin 256, D.emb b k * D.P k ⟨n, h⟩) + D.Q ⟨n, h⟩ else 0

theorem Data.logit_at (b : Fin 32) (n : Fin 100000) : D.logit b n.val = (∑ k : Fin 256, D.emb b k * D.P k n) + D.Q n := dif_pos n.isLt

/-- An entry of the result: the logit less its row's normalizer. -/
def Data.out (b : Fin 32) (n : Fin 100000) : ℝ := D.logit b n.val - Reals.lse (D.logit b)

/-- A logit read among the extended reals. -/
theorem Data.logit_coe (b : Fin 32) (n : Fin 100000) (a p : Fin 256 → EReal) (q : EReal) (ha : ∀ k, a k = (D.emb b k : EReal)) (hp : ∀ k, p k = (D.P k n : EReal)) (hq : q = (D.Q n : EReal)) :
    (∑ k : Fin 256, a k * p k) + q = (D.logit b n.val : EReal) := by
  rw [D.logit_at, EReal.coe_add, Reals.coe_sum, hq]
  exact Ideal.add_congr (Finset.sum_congr rfl fun k _ => by rw [ha, hp, EReal.coe_mul]) rfl

end Cert.Model

end
-- ==== Proof.Value.KernelVal.lean ====
/-
  What the kernel leaves in its result where every entry is a real number.
-/
module

public import proofs.«01_k».proof.Proof.Value.Arr0
public import proofs.«01_k».proof.Proof.Value.Arr2
public import proofs.«01_k».proof.Proof.Value.Lse
public import proofs.«01_k».proof.Proof.Value.Host
public import proofs.«01_k».proof.Proof.Value.Model
public import proofs.«01_k».proof.Proof.KI.Frame

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments and the mask hold these real numbers. -/
structure Holds (D : Model.Data) : Prop where
  /-- The modalities. -/
  X : ∀ j b k, (m ((c : Thread nD τ).loc main_arg0) : FVec Ideal S3x32x16384 .f32) (ix3 j b k) = (D.X j b k : EReal)
  /-- The first modality's weights. -/
  W0 : ∀ k e, (m ((c : Thread nD τ).loc main_arg1) : FVec Ideal S16384x256 .f32) (ix2 k e) = (D.W 0 k e : EReal)
  /-- The second's. -/
  W1 : ∀ k e, (m ((c : Thread nD τ).loc main_arg3) : FVec Ideal S16384x256 .f32) (ix2 k e) = (D.W 1 k e : EReal)
  /-- The third's. -/
  W2 : ∀ k e, (m ((c : Thread nD τ).loc main_arg5) : FVec Ideal S16384x256 .f32) (ix2 k e) = (D.W 2 k e : EReal)
  /-- The first modality's biases. -/
  B0 : ∀ e, (m ((c : Thread nD τ).loc main_arg2) : FVec Ideal S256 .f32) (ix1 e) = (D.B 0 e : EReal)
  /-- The second's. -/
  B1 : ∀ e, (m ((c : Thread nD τ).loc main_arg4) : FVec Ideal S256 .f32) (ix1 e) = (D.B 1 e : EReal)
  /-- The third's. -/
  B2 : ∀ e, (m ((c : Thread nD τ).loc main_arg6) : FVec Ideal S256 .f32) (ix1 e) = (D.B 2 e : EReal)
  /-- The mask. -/
  K : ∀ b e j, (V5 m c (Proc.devRef .tc main_v18) : FVec Ideal S32x256x3 .f32) (ix3 b e j) = (D.K b e j : EReal)
  /-- The logits' weights. -/
  P : ∀ k n, (m ((c : Thread nD τ).loc main_arg7) : FVec Ideal S256x100000 .f32) (ix2 k n) = (D.P k n : EReal)
  /-- The logits' biases. -/
  Q : ∀ n, (m ((c : Thread nD τ).loc main_arg8) : FVec Ideal S100000 .f32) (ix1 n) = (D.Q n : EReal)

variable {m c} {D : Model.Data} (H : Holds m c D)

section First

variable {x : Dev nD → Valuation τ sig (Elt Ideal)} (hx : Sel0 m x c)

include hx in
/-- The first kernel finds an argument as launched. -/
theorem first_arg (r : Ref sig .tc) (hr : r ∉ hostOps0_W ++ hostOps0_1_W ++ hostOps0_2_W ++ hostOps0_3_W ++ hostOps0_4_W ++ hostOps0_5_W) :
    x c (Proc.devRef .tc r) = m ((c : Thread nD τ).loc r) :=
  (congrFun hx _).trans (launched m c r hr)

include H hx in
/-- The masks the first kernel finds. -/
theorem first_mask (b : Fin 32) (e : Fin 256) (j : Fin 3) : min' x c (ix3 j b e) = (D.K b e j : EReal) :=
  (congrFun ((congrFun hx _).trans (after_v19 (V5 m c))) _).trans ((transpose_at _ j b e).trans (H.K b e j))

include H hx in
/-- The biases the first kernel finds. -/
theorem first_bias (e : Fin 256) (j : Fin 3) : bin x c j (ix2 0 e) = (D.B j e : EReal) := by
  match j with
  | 0 => exact (congrFun ((congrFun hx _).trans (after_v20 (V5 m c))) _).trans ((row_at _ e).trans ((congrFun (before m c main_arg2 (by decide)) _).trans (H.B0 e)))
  | 1 => exact (congrFun ((congrFun hx _).trans (after_v21 (V5 m c))) _).trans ((row_at _ e).trans ((congrFun (before m c main_arg4 (by decide)) _).trans (H.B1 e)))
  | 2 => exact (congrFun ((congrFun hx _).trans (after_v22 (V5 m c))) _).trans ((row_at _ e).trans ((congrFun (before m c main_arg6 (by decide)) _).trans (H.B2 e)))

include H hx in
/-- The weights the first kernel finds. -/
theorem first_weight (k : Fin 16384) (e : Fin 256) (j : Fin 3) : win x c j (ix2 k e) = (D.W j k e : EReal) := by
  match j with
  | 0 => exact (congrFun (first_arg hx main_arg1 (by decide)) _).trans (H.W0 k e)
  | 1 => exact (congrFun (first_arg hx main_arg3 (by decide)) _).trans (H.W1 k e)
  | 2 => exact (congrFun (first_arg hx main_arg5 (by decide)) _).trans (H.W2 k e)

include H hx in
/-- The products of the dot products. -/
theorem first_prod (b : Fin 32) (e : Fin 256) (j : Fin 3) (k : Fin 16384) : (ain x c (ix3 j b k) * win x c j (ix2 k e) : EReal) = (D.prod b e j k.val : EReal) := by
  rw [D.prod_at, EReal.coe_mul]
  exact Ideal.mul_congr ((congrFun (first_arg hx main_arg0 (by decide)) _).trans (H.X j b k)) (first_weight H hx k e j)

include H hx in
/-- The embedding the first kernel leaves. -/
theorem emb_value {W : Valuation τ sig (Elt Ideal)} (h : Record.Leaves (pcfgs (F := Ideal)) adm 0 (dats x) mks (Rls x) c (x c) W) (b : Fin 32) (e : Fin 256) :
    (W (Proc.devRef .tc main_v24) : FVec Ideal S32x256 .f32) (ix2 b e) = (D.emb b e : EReal) :=
  (congrFun (emb_arr x c W h) _).trans
    (acc_at x c b e (D.K b e) (fun j => D.B j e) (D.prod b e) (first_mask H hx b e) (first_bias H hx e) (first_prod H hx b e) 7 (by norm_num))

end First

section Second

variable {x : Dev nD → Valuation τ sig (Elt Ideal)} (hx : Sel1 m x c)

include H hx in
/-- The logits the second kernel computes. -/
theorem logit_value (b : Fin 32) (n : Fin 100000) : logit x c b n = (D.logit b n.val : EReal) := by
  obtain ⟨x0, hx0, l0⟩ := hx
  have e7 : x c (Proc.devRef .tc main_arg7) = x0 c (Proc.devRef .tc main_arg7) := Record.Leaves.keep _ _ _ _ _ _ l0 (fun w => A_eq0 x0 c w) main_arg7 (by decide)
  have e23 : x c (Proc.devRef .tc main_v23) = x0 c (Proc.devRef .tc main_v23) := Record.Leaves.keep _ _ _ _ _ _ l0 (fun w => A_eq0 x0 c w) main_v23 (by decide)
  refine D.logit_coe b n _ _ _ (fun k => emb_value H hx0 l0 b k) (fun k => ?_) ?_
  · exact (congrFun (e7.trans (first_arg hx0 main_arg7 (by decide))) _).trans (H.P k n)
  · exact (congrFun (e23.trans ((congrFun hx0 _).trans (after_v23 (V5 m c)))) _).trans ((wide_row_at _ n).trans ((congrFun (before m c main_arg8 (by decide)) _).trans (H.Q n)))

end Second

include H in
/-- The kernel's result: every logit less its row's normalizer. -/
theorem kernel_value {W : Valuation τ sig (Elt Ideal)} (h : Sel3 m c W) :
    W (Proc.devRef .tc main_v26) = (fun i => (D.out (i 0) (i 1) : EReal) : FVec Ideal S32x100000 .f32) := by
  obtain ⟨x2, ⟨x1, hx1, l1⟩, l2⟩ := h
  have hl := logit_value H hx1
  refine (out_arr x2 c W l2 _ (logits_arr x1 c _ l1) _ (lse_arr x1 c D.logit hl _ l1)).trans (funext fun i => ?_)
  refine Eq.trans ?_ (EReal.coe_sub (D.logit (i 0) (i 1).val) (Reals.lse (D.logit (i 0)))).symm
  exact congrArg (fun y : EReal => y - ((Reals.lse (D.logit (i 0)) : ℝ) : EReal)) (hl (i 0) (i 1))

end Cert.KernelIdeal.Hand

end
-- ==== Proof.Value.Finite.lean ====
/-
  The precondition: every entry of every argument is a real number.
-/
module

public import proofs.«01_k».proof.Defs
public import proofs.«01_k».proof.Proof.Gen.Pre_finite
public import Idealize.ShloMosaic.Lib.ReduceAll
public import Idealize.ShloMosaic.Lib.Pipeline.ValueKit

@[expose] public section

set_option maxRecDepth 16384

noncomputable section

namespace Cert.Finite

open Idealize.ShloMosaic Idealize.ShloMosaic.TcCoe Idealize.SL.Sem Cert.Pre_finite Cert.Pre_finite.Gen

/-- The pattern of plus infinity is the greatest extended real. -/
theorem ofBits_top : Ideal.ofBits .f32 2139095040#32 = (⊤ : EReal) := by
  simp [Ideal.ofBits, Ideal.ieee]

/-- An array that passes the test holds real numbers only. -/
theorem real_of_all {s t : Shape} {axes : List (Fin s.rank)} [Subsingleton t.Idx] (X : FVec Ideal s .f32) (hb) (h : s.ReducesTo axes t) (hu : 0 < S_.numel) (j : t.Idx)
    (e : Host.reduce IntOp.andi (cmpf .olt (Host.absf X) (broadcastInDim s ![] hb (constant (F := Ideal) S_ .f32 0x7F800000#32))) (constantI S_ 1 1#1) h hu j = 1#1) (i : s.Idx) :
    ∃ r : ℝ, X i = (r : EReal) := by
  have h1 := Host.reduce_andi_all _ _ h hu j e i
  pointwise at h1
  rw [ofBits_top] at h1
  have h2 : max (X i : EReal) (-(X i : EReal)) < ⊤ := by
    by_contra hn
    rw [decide_eq_false (show ¬ FloatOps.absf (F := Ideal) (φ := .f32) (X i) < (⊤ : EReal) from hn)] at h1
    exact absurd h1 (by decide)
  have h3 : (X i : EReal) ≠ ⊤ := fun e => by rw [e] at h2; exact absurd h2 (by simp)
  have h4 : (X i : EReal) ≠ ⊥ := fun e => by rw [e] at h2; exact absurd h2 (by simp)
  exact ⟨_, (EReal.coe_toReal h3 h4).symm⟩

/-- A conjunction of two one-bit arrays is one where both are. -/
theorem andi_at {s : Shape} (a b : IVec s 1) (j : s.Idx) (h : andi a b j = 1#1) : a j = 1#1 ∧ b j = 1#1 := IntOp.andi_eq_one.1 h

instance : Subsingleton S_.Idx := ⟨fun a b => funext fun i => i.elim0⟩

/-- Under the precondition every entry of every argument is a real number. -/
theorem reals (x0 : FVec Ideal S3x32x16384 .f32) (x1 : FVec Ideal S16384x256 .f32) (x2 : FVec Ideal S256 .f32) (x3 : FVec Ideal S16384x256 .f32) (x4 : FVec Ideal S256 .f32)
    (x5 : FVec Ideal S16384x256 .f32) (x6 : FVec Ideal S256 .f32) (x7 : FVec Ideal S256x100000 .f32) (x8 : FVec Ideal S100000 .f32)
    (h : Cert.Pre_finite.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) := by
  have h0 := congrFun h (fun i => i.elim0)
  unfold Cert.Pre_finite.fn Cert.Pre_finite.fn_part1 Cert.Pre_finite.fn_part2 at h0
  dsimp only at h0
  obtain ⟨h0, e8⟩ := andi_at _ _ _ h0
  obtain ⟨h0, e7⟩ := andi_at _ _ _ h0
  obtain ⟨h0, e6⟩ := andi_at _ _ _ h0
  obtain ⟨h0, e5⟩ := andi_at _ _ _ h0
  obtain ⟨h0, e4⟩ := andi_at _ _ _ h0
  obtain ⟨h0, e3⟩ := andi_at _ _ _ h0
  obtain ⟨h0, e2⟩ := andi_at _ _ _ h0
  obtain ⟨e0, e1⟩ := andi_at _ _ _ h0
  exact ⟨real_of_all x0 _ _ _ _ e0, real_of_all x1 _ _ _ _ e1, real_of_all x2 _ _ _ _ e2, real_of_all x3 _ _ _ _ e3, real_of_all x4 _ _ _ _ e4,
    real_of_all x5 _ _ _ _ e5, real_of_all x6 _ _ _ _ e6, real_of_all x7 _ _ _ _ e7, real_of_all x8 _ _ _ _ e8⟩

end Cert.Finite

end
-- ==== Proof.Value.Equation.lean ====
/-
  The equation: the reference's result is the kernel's.
-/
module

public import proofs.«01_k».proof.Proof.Mask
public import proofs.«01_k».proof.Proof.Value.RefVal
public import proofs.«01_k».proof.Proof.Value.KernelVal
public import proofs.«01_k».proof.Proof.Value.Finite

@[expose] public section

noncomputable section

namespace Cert.RefSide

open Idealize.ShloMosaic Idealize.ShloMosaic.TcCoe Idealize.SL.Sem Cert.ReferenceIdeal Cert.ReferenceIdeal.Gen

variable {m : (ℓ : Loc Cert.KernelIdeal.nD Cert.KernelIdeal.τ Cert.KernelIdeal.sig) → Buf (Elt Ideal) ℓ} {c : Dev Cert.KernelIdeal.nD}

/-- Under the precondition the arguments and the mask hold real numbers. -/
theorem holds (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) :
    ∃ D : Model.Data, Cert.KernelIdeal.Hand.Holds m c D := by
  obtain ⟨e0, e1, e2, e3, e4, e5, e6, e7, e8⟩ := Cert.Finite.reals _ _ _ _ _ _ _ _ _ h
  have ek := Cert.KernelIdeal.Hand.after_v18 (Cert.KernelIdeal.Gen.V4 m c)
  choose X hX using e0
  choose W0 hW0 using e1
  choose B0 hB0 using e2
  choose W1 hW1 using e3
  choose B1 hB1 using e4
  choose W2 hW2 using e5
  choose B2 hB2 using e6
  choose P hP using e7
  choose Q hQ using e8
  choose K hK using ek
  refine ⟨⟨fun j b k => X (ix3 j b k), ![fun k e => W0 (ix2 k e), fun k e => W1 (ix2 k e), fun k e => W2 (ix2 k e)], ![fun e => B0 (ix1 e), fun e => B1 (ix1 e), fun e => B2 (ix1 e)],
    fun b e j => K (ix3 b e j), fun k n => P (ix2 k n), fun n => Q (ix1 n)⟩, ?_⟩
  exact ⟨fun _ _ _ => hX _, fun _ _ => hW0 _, fun _ _ => hW1 _, fun _ _ => hW2 _, fun _ => hB0 _, fun _ => hB1 _, fun _ => hB2 _, fun _ _ _ => hK _, fun _ _ => hP _, fun _ => hQ _⟩

section Value

variable {D : Model.Data} (H : Cert.KernelIdeal.Hand.Holds m c D) (V : Valuation τ sig (Elt Ideal))
  (h0 : V (Proc.devRef .tc main_arg0) = m ((c.tc : Thread Cert.KernelIdeal.nD Cert.KernelIdeal.τ).loc Cert.KernelIdeal.main_arg0))
  (h1 : V (Proc.devRef .tc main_arg1) = m ((c.tc : Thread Cert.KernelIdeal.nD Cert.KernelIdeal.τ).loc Cert.KernelIdeal.main_arg1))
  (h2 : V (Proc.devRef .tc main_arg2) = m ((c.tc : Thread Cert.KernelIdeal.nD Cert.KernelIdeal.τ).loc Cert.KernelIdeal.main_arg2))
  (h3 : V (Proc.devRef .tc main_arg3) = m ((c.tc : Thread Cert.KernelIdeal.nD Cert.KernelIdeal.τ).loc Cert.KernelIdeal.main_arg3))
  (h4 : V (Proc.devRef .tc main_arg4) = m ((c.tc : Thread Cert.KernelIdeal.nD Cert.KernelIdeal.τ).loc Cert.KernelIdeal.main_arg4))
  (h5 : V (Proc.devRef .tc main_arg5) = m ((c.tc : Thread Cert.KernelIdeal.nD Cert.KernelIdeal.τ).loc Cert.KernelIdeal.main_arg5))
  (h6 : V (Proc.devRef .tc main_arg6) = m ((c.tc : Thread Cert.KernelIdeal.nD Cert.KernelIdeal.τ).loc Cert.KernelIdeal.main_arg6))
  (h7 : V (Proc.devRef .tc main_arg7) = m ((c.tc : Thread Cert.KernelIdeal.nD Cert.KernelIdeal.τ).loc Cert.KernelIdeal.main_arg7))
  (h8 : V (Proc.devRef .tc main_arg8) = m ((c.tc : Thread Cert.KernelIdeal.nD Cert.KernelIdeal.τ).loc Cert.KernelIdeal.main_arg8))

include H h0 h1 h2 h3 h4 h5 h6 in
/-- The embedding the reference computes. -/
theorem ref_emb (b : Fin 32) (e : Fin 256) : (StableHlo.after ops V (Proc.devRef .tc main_v42) : FVec Ideal S32x256 .f32) (ix2 b e) = (D.emb b e : EReal) := by
  refine (congrFun (value_emb V) _).trans ?_
  rw [h0, h1, h2, h3, h4, h5, h6, mask_eq V m c]
  refine emb_real _ _ _ _ _ _ _ _ b e (D.K b e) (fun j => D.B j e) (D.prod b e) (H.K b e) (H.B0 e) (H.B1 e) (H.B2 e) (fun k => ?_) (fun k => ?_) (fun k => ?_)
  · rw [D.prod_at, EReal.coe_mul]; exact Ideal.mul_congr (H.X 0 b k) (H.W0 k e)
  · rw [D.prod_at, EReal.coe_mul]; exact Ideal.mul_congr (H.X 1 b k) (H.W1 k e)
  · rw [D.prod_at, EReal.coe_mul]; exact Ideal.mul_congr (H.X 2 b k) (H.W2 k e)

include H h0 h1 h2 h3 h4 h5 h6 h7 h8 in
/-- The logits the reference computes. -/
theorem ref_logit (b : Fin 32) (n : Fin 100000) : (StableHlo.after ops V (Proc.devRef .tc main_v46) : FVec Ideal S32x100000 .f32) (ix2 b n) = (D.logit b n.val : EReal) := by
  refine (congrFun (value_logits V) _).trans ((logits_at _ _ _ b n).trans ?_)
  rw [h7, h8]
  exact D.logit_coe b n _ _ _ (fun k => ref_emb H V h0 h1 h2 h3 h4 h5 h6 b k) (fun k => H.P k n) (H.Q n)

include H h0 h1 h2 h3 h4 h5 h6 h7 h8 in
/-- The reference's result: every logit less its row's normalizer. -/
theorem ref_value : StableHlo.after ops V (Proc.devRef .tc main_v47) = (fun i => (D.out (i 0) (i 1) : EReal) : FVec Ideal S32x100000 .f32) := by
  refine (value_lsm V).trans (funext fun i => ?_)
  have e : i = ix2 (i 0) (i 1) := eq_ix2 (n0 := 32) (n1 := 100000) i
  exact (congrArg _ e).trans (lsm_real _ D.logit (ref_logit H V h0 h1 h2 h3 h4 h5 h6 h7 h8) (i 0) (i 1))

end Value

end Cert.RefSide

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import Idealize.ShloMosaic.Adequacy
public import Idealize.ShloMosaic.Init
public import proofs.«01_k».proof.Proof.K.Frame
public import proofs.«01_k».proof.Proof.KI.Frame
public import proofs.«01_k».proof.Proof.Value.Equation

@[expose] public section

noncomputable section

namespace Cert.Proof

open Idealize.ShloMosaic Idealize.SL.Sem Cert.Kernel

/-- The reference's run: its result off the line of its operations, its arguments as they began, every semaphore at zero. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v47)
          = StableHlo.after Cert.RefSide.ops (StableHlo.launchContents m c) (Proc.devRef .tc Cert.ReferenceIdeal.main_v47)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) := by
  refine θ_run_mono (Cert.RefSide.run m g) ?_
  rintro r ⟨h, hs⟩
  refine ⟨fun c => ?_, hs⟩
  obtain ⟨a0, a1, a2, a3, a4, a5, a6, a7, a8⟩ := Cert.RefSide.args (StableHlo.launchContents m c)
  exact ⟨h c _, (h c _).trans a0, (h c _).trans a1, (h c _).trans a2, (h c _).trans a3, (h c _).trans a4, (h c _).trans a5, (h c _).trans a6, (h c _).trans a7, (h c _).trans a8⟩

/-- The printed kernel's frame. -/
theorem frame_kernel : Cert.quiescent_Kernel (hKernel := Cert.Kernel.Gen.facts) := fun m g _ =>
  θ_run_mono (Cert.Kernel.Hand.run_frame m g) fun _ h => ⟨fun c => (h.1 c).2, h.2⟩

/-- The ideal kernel's frame. -/
theorem frame_ideal : Cert.quiescent_KernelIdeal (hKernelIdeal := Cert.KernelIdeal.Gen.facts) := fun m g _ =>
  θ_run_mono (Cert.KernelIdeal.Hand.run_frame m g) fun _ h => ⟨fun c => (h.1 c).2, h.2⟩

/-- The reference's frame. -/
theorem frame_reference : Cert.quiescent_ReferenceIdeal (hReferenceIdeal := Cert.ReferenceIdeal.Gen.facts) := fun m g _ =>
  θ_run_mono (reference_run m g) fun _ h => ⟨fun c => (h.1 c).2, h.2⟩

/-- The kernel and the reference leave the same result. -/
theorem equation : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hagree
  have hD := fun c => Cert.RefSide.holds (m := m) (c := c) (hpre c)
  choose D H using hD
  refine ⟨fun c => (fun i => ((D c).out (i 0) (i 1) : EReal) : FVec Ideal Cert.KernelIdeal.S32x100000 .f32), ?_, ?_⟩
  · refine θ_run_mono (Cert.KernelIdeal.Hand.run_frame m g) ?_
    rintro r ⟨h, -⟩ c
    obtain ⟨⟨W, hW, e⟩, hargs⟩ := h c
    exact ⟨e.trans (Cert.KernelIdeal.Hand.kernel_value (H c) hW), hargs⟩
  · refine θ_run_mono (reference_run m' g') ?_
    rintro r ⟨h, -⟩ c
    obtain ⟨e, hargs⟩ := h c
    obtain ⟨h0, h1, h2, h3, h4, h5, h6, h7, h8⟩ := hagree c
    exact ⟨e.trans (Cert.RefSide.ref_value (H c) (StableHlo.launchContents m' c) h0 h1 h2 h3 h4 h5 h6 h7 h8), hargs⟩

/-- Every claim. -/
theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_reference, fun m g _ => frame_reference m g trivial, trivial, equation⟩

end Cert.Proof

end
